-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x512 : Shape := ⟨2, ![1, 512]⟩
abbrev S512x512 : Shape := ⟨2, ![512, 512]⟩
abbrev S512 : Shape := ⟨1, ![512]⟩
abbrev S128x512 : Shape := ⟨2, ![128, 512]⟩
abbrev S128 : Shape := ⟨1, ![128]⟩
abbrev S65920x512 : Shape := ⟨2, ![65920, 512]⟩
abbrev S65920 : Shape := ⟨1, ![65920]⟩
abbrev S256x128 : Shape := ⟨2, ![256, 128]⟩
abbrev S256 : Shape := ⟨1, ![256]⟩
abbrev S128x256 : Shape := ⟨2, ![128, 256]⟩
abbrev S8x8240x1024 : Shape := ⟨3, ![8, 8240, 1024]⟩
abbrev S_ : Shape := ⟨0, ![]⟩

class Facts : Prop where
  bcast_S_S1x512 : S_.BroadcastsInDim S1x512 (![] : Fin 0 → Fin S1x512.rank)
  bcast_S_S512x512 : S_.BroadcastsInDim S512x512 (![] : Fin 0 → Fin S512x512.rank)
  bcast_S_S512 : S_.BroadcastsInDim S512 (![] : Fin 0 → Fin S512.rank)
  bcast_S_S65920x512 : S_.BroadcastsInDim S65920x512 (![] : Fin 0 → Fin S65920x512.rank)
  bcast_S_S65920 : S_.BroadcastsInDim S65920 (![] : Fin 0 → Fin S65920.rank)
  bcast_S_S8x8240x1024 : S_.BroadcastsInDim S8x8240x1024 (![] : Fin 0 → Fin S8x8240x1024.rank)

variable [Facts]

def fn {F : FTy → Type} [FloatOps F] (main_arg0 : FVec F S1x512 .f32) (main_arg1 : FVec F S512x512 .f32) (main_arg2 : FVec F S512 .f32) (main_arg3 : FVec F S512x512 .f32) (main_arg4 : FVec F S512 .f32) (main_arg5 : FVec F S128x512 .f32) (main_arg6 : FVec F S128 .f32) (main_arg7 : FVec F S65920x512 .f32) (main_arg8 : FVec F S65920 .f32) (main_arg9 : FVec F S256x128 .f32) (main_arg10 : FVec F S256 .f32) (main_arg11 : FVec F S128x256 .f32) (main_arg12 : FVec F S128 .f32) (main_arg13 : FVec F S8x8240x1024 .f32) : IVec S1x512 1 × IVec S512x512 1 × IVec S512 1 × IVec S65920x512 1 × IVec S65920 1 × IVec S8x8240x1024 1 :=
  let main_v0 : FVec F S1x512 .f32 := Host.absf main_arg0
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S65920x512 .f32 := Host.absf main_arg7
  let main_cst_2 : FVec F S_ .f32 := constant S_ .f32 0x7F800000#32
  let main_v10 : FVec F S65920x512 .f32 := broadcastInDim S65920x512 ![] bcast_S_S65920x512 main_cst_2
  let main_v11 : IVec S65920x512 1 := cmpf .olt main_v9 main_v10
  let main_v12 : FVec F S65920 .f32 := Host.absf main_arg8
  let main_cst_3 : FVec F S_ .f32 := constant S_ .f32 0x7F800000#32
  let main_v13 : FVec F S65920 .f32 := broadcastInDim S65920 ![] bcast_S_S65920 main_cst_3
  let main_v14 : IVec S65920 1 := cmpf .olt main_v12 main_v13
  let main_v15 : FVec F S8x8240x1024 .f32 := Host.absf main_arg13
  let main_cst_4 : FVec F S_ .f32 := constant S_ .f32 0x7F800000#32
  let main_v16 : FVec F S8x8240x1024 .f32 := broadcastInDim S8x8240x1024 ![] bcast_S_S8x8240x1024 main_cst_4
  let main_v17 : IVec S8x8240x1024 1 := cmpf .olt main_v15 main_v16
  (main_v2, main_v5, main_v8, main_v11, main_v14, main_v17)
-- ==== Kernel.lean ====
abbrev S1x512 : Shape := ⟨2, ![1, 512]⟩
abbrev S512x512 : Shape := ⟨2, ![512, 512]⟩
abbrev S512 : Shape := ⟨1, ![512]⟩
abbrev S128x512 : Shape := ⟨2, ![128, 512]⟩
abbrev S128 : Shape := ⟨1, ![128]⟩
abbrev S65920x512 : Shape := ⟨2, ![65920, 512]⟩
abbrev S65920 : Shape := ⟨1, ![65920]⟩
abbrev S256x128 : Shape := ⟨2, ![256, 128]⟩
abbrev S256 : Shape := ⟨1, ![256]⟩
abbrev S128x256 : Shape := ⟨2, ![128, 256]⟩
abbrev S8x8240x1024 : Shape := ⟨3, ![8, 8240, 1024]⟩
abbrev S8x5x1648x512 : Shape := ⟨4, ![8, 5, 1648, 512]⟩
abbrev S8x5x1x1648 : Shape := ⟨4, ![8, 5, 1, 1648]⟩
abbrev S8x5x1648x1024 : Shape := ⟨4, ![8, 5, 1648, 1024]⟩
abbrev S1x128 : Shape := ⟨2, ![1, 128]⟩
abbrev S1x256 : Shape := ⟨2, ![1, 256]⟩
abbrev S1x1 : Shape := ⟨2, ![1, 1]⟩
abbrev S_ : Shape := ⟨0, ![]⟩
abbrev S1x1x1648x512 : Shape := ⟨4, ![1, 1, 1648, 512]⟩
abbrev S1x1x1x1648 : Shape := ⟨4, ![1, 1, 1, 1648]⟩
abbrev S1x1x1648x1024 : Shape := ⟨4, ![1, 1, 1648, 1024]⟩
abbrev S1x1024 : Shape := ⟨2, ![1, 1024]⟩
abbrev S1648x512 : Shape := ⟨2, ![1648, 512]⟩
abbrev S1648x1024 : Shape := ⟨2, ![1648, 1024]⟩
abbrev S1x1648 : Shape := ⟨2, ![1, 1648]⟩
abbrev S1024 : Shape := ⟨1, ![1024]⟩
abbrev S1x1x1648 : Shape := ⟨3, ![1, 1, 1648]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 27
  | .vmem => 23
  | .smem => 0
  | _ => 0

abbrev bufTy : (tb : Table) → Fin (tcTables nBuf tb) → BufTy
  | .hbm, ⟨0, _⟩ => ⟨S1x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S128x512, .f32⟩
  | .hbm, ⟨6, _⟩ => ⟨S128, .f32⟩
  | .hbm, ⟨7, _⟩ => ⟨S65920x512, .f32⟩
  | .hbm, ⟨8, _⟩ => ⟨S65920, .f32⟩
  | .hbm, ⟨9, _⟩ => ⟨S256x128, .f32⟩
  | .hbm, ⟨10, _⟩ => ⟨S256, .f32⟩
  | .hbm, ⟨11, _⟩ => ⟨S128x256, .f32⟩
  | .hbm, ⟨12, _⟩ => ⟨S128, .f32⟩
  | .hbm, ⟨13, _⟩ => ⟨S8x8240x1024, .f32⟩
  | .hbm, ⟨14, _⟩ => ⟨S8x5x1648x512, .f32⟩
  | .hbm, ⟨15, _⟩ => ⟨S8x5x1x1648, .f32⟩
  | .hbm, ⟨16, _⟩ => ⟨S8x5x1648x1024, .f32⟩
  | .hbm, ⟨17, _⟩ => ⟨S1x512, .f32⟩
  | .hbm, ⟨18, _⟩ => ⟨S1x512, .f32⟩
  | .hbm, ⟨19, _⟩ => ⟨S1x128, .f32⟩
  | .hbm, ⟨20, _⟩ => ⟨S1x256, .f32⟩
  | .hbm, ⟨21, _⟩ => ⟨S1x128, .f32⟩
  | .hbm, ⟨22, _⟩ => ⟨S1x128, .f32⟩
  | .hbm, ⟨23, _⟩ => ⟨S1x1, .f32⟩
  | .hbm, ⟨24, _⟩ => ⟨S1x1, .f32⟩
  | .hbm, ⟨25, _⟩ => ⟨S_, .f32⟩
  | .hbm, ⟨26, _⟩ => ⟨S_, .f32⟩
  | .local _ .vmem, ⟨0, _⟩ => ⟨S1x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S1x512, .f32⟩
  | .local _ .vmem, ⟨5, _⟩ => ⟨S128x512, .f32⟩
  | .local _ .vmem, ⟨6, _⟩ => ⟨S1x128, .f32⟩
  | .local _ .vmem, ⟨7, _⟩ => ⟨S256x128, .f32⟩
  | .local _ .vmem, ⟨8, _⟩ => ⟨S1x256, .f32⟩
  | .local _ .vmem, ⟨9, _⟩ => ⟨S128x256, .f32⟩
  | .local _ .vmem, ⟨10, _⟩ => ⟨S1x128, .f32⟩
  | .local _ .vmem, ⟨11, _⟩ => ⟨S1x1x1648x512, .f32⟩
  | .local _ .vmem, ⟨12, _⟩ => ⟨S1x1x1648x512, .f32⟩
  | .local _ .vmem, ⟨13, _⟩ => ⟨S1x1x1x1648, .f32⟩
  | .local _ .vmem, ⟨14, _⟩ => ⟨S1x1x1x1648, .f32⟩
  | .local _ .vmem, ⟨15, _⟩ => ⟨S1x1x1648x1024, .f32⟩
  | .local _ .vmem, ⟨16, _⟩ => ⟨S1x1x1648x1024, .f32⟩
  | .local _ .vmem, ⟨17, _⟩ => ⟨S1x128, .f32⟩
  | .local _ .vmem, ⟨18, _⟩ => ⟨S1x1, .f32⟩
  | .local _ .vmem, ⟨19, _⟩ => ⟨S1x1, .f32⟩
  | .local _ .vmem, ⟨20, _⟩ => ⟨S1x512, .f32⟩
  | .local _ .vmem, ⟨21, _⟩ => ⟨S1x1024, .f32⟩
  | .local _ .vmem, ⟨22, _⟩ => ⟨S1x1, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_v0_0 : Ref sig .tc := ⟨.hbm, 22, rfl⟩
abbrev main_call0_v8_1 : Ref sig .tc := ⟨.hbm, 23, rfl⟩
abbrev main_call0_v8_2 : Ref sig .tc := ⟨.hbm, 24, rfl⟩
abbrev main_v0_1 : Ref sig .tc := ⟨.hbm, 25, rfl⟩
abbrev main_v0_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem15_0 : DmaSem sig := 18
abbrev cc0_sem16_0 : DmaSem sig := 19

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg0 : BitVec 32 := BitVec.ofNat 32 (i 0).val
  let c7_i32 : BitVec 32 := 7#32
  let v5 : BitVec 1 := Scalar.cmpi .eq arg0 c7_i32
  let arg1 : BitVec 32 := BitVec.ofNat 32 (i 1).val
  let c4_i32 : BitVec 32 := 4#32
  let v6 : BitVec 1 := Scalar.cmpi .eq arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg1 : BitVec 32 := BitVec.ofNat 32 (i 1).val
  let c4_i32_24 : BitVec 32 := 4#32
  let v42 : BitVec 1 := Scalar.cmpi .eq arg1 c4_i32_24
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1648x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x1648 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1648x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== ReferenceIdeal.lean ====
abbrev S1x512 : Shape := ⟨2, ![1, 512]⟩
abbrev S512x512 : Shape := ⟨2, ![512, 512]⟩
abbrev S512 : Shape := ⟨1, ![512]⟩
abbrev S128x512 : Shape := ⟨2, ![128, 512]⟩
abbrev S128 : Shape := ⟨1, ![128]⟩
abbrev S65920x512 : Shape := ⟨2, ![65920, 512]⟩
abbrev S65920 : Shape := ⟨1, ![65920]⟩
abbrev S256x128 : Shape := ⟨2, ![256, 128]⟩
abbrev S256 : Shape := ⟨1, ![256]⟩
abbrev S128x256 : Shape := ⟨2, ![128, 256]⟩
abbrev S8x8240x1024 : Shape := ⟨3, ![8, 8240, 1024]⟩
abbrev S_ : Shape := ⟨0, ![]⟩
abbrev S512x65920 : Shape := ⟨2, ![512, 65920]⟩
abbrev S1x65920 : Shape := ⟨2, ![1, 65920]⟩
abbrev S8x8240 : Shape := ⟨2, ![8, 8240]⟩
abbrev S8 : Shape := ⟨1, ![8]⟩
abbrev S8x1 : Shape := ⟨2, ![8, 1]⟩
abbrev S8x1024 : Shape := ⟨2, ![8, 1024]⟩
abbrev S1x1024 : Shape := ⟨2, ![1, 1024]⟩
abbrev S8x1x1 : Shape := ⟨3, ![8, 1, 1]⟩
abbrev S1 : Shape := ⟨1, ![1]⟩
abbrev S1x1x1 : Shape := ⟨3, ![1, 1, 1]⟩
abbrev S8x8240x1 : Shape := ⟨3, ![8, 8240, 1]⟩
abbrev S1x8192 : Shape := ⟨2, ![1, 8192]⟩
abbrev S8192 : Shape := ⟨1, ![8192]⟩
abbrev S512x128 : Shape := ⟨2, ![512, 128]⟩
abbrev S1x128 : Shape := ⟨2, ![1, 128]⟩
abbrev S1x256 : Shape := ⟨2, ![1, 256]⟩

abbrev nBuf : Space → Nat
  | .hbm => 122
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S128x512, .f32⟩
  | .hbm, ⟨6, _⟩ => ⟨S128, .f32⟩
  | .hbm, ⟨7, _⟩ => ⟨S65920x512, .f32⟩
  | .hbm, ⟨8, _⟩ => ⟨S65920, .f32⟩
  | .hbm, ⟨9, _⟩ => ⟨S256x128, .f32⟩
  | .hbm, ⟨10, _⟩ => ⟨S256, .f32⟩
  | .hbm, ⟨11, _⟩ => ⟨S128x256, .f32⟩
  | .hbm, ⟨12, _⟩ => ⟨S128, .f32⟩
  | .hbm, ⟨13, _⟩ => ⟨S8x8240x1024, .f32⟩
  | .hbm, ⟨14, _⟩ => ⟨S512x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S_, .f32⟩
  | .hbm, ⟨19, _⟩ => ⟨S1x512, .f32⟩
  | .hbm, ⟨20, _⟩ => ⟨S1x512, .f32⟩
  | .hbm, ⟨21, _⟩ => ⟨S512x65920, .f32⟩
  | .hbm, ⟨22, _⟩ => ⟨S1x65920, .f32⟩
  | .hbm, ⟨23, _⟩ => ⟨S1x65920, .f32⟩
  | .hbm, ⟨24, _⟩ => ⟨S1x65920, .f32⟩
  | .hbm, ⟨25, _⟩ => ⟨S8x8240, .f32⟩
  | .hbm, ⟨26, _⟩ => ⟨S8x8240, .f32⟩
  | .hbm, ⟨27, _⟩ => ⟨S_, .f32⟩
  | .hbm, ⟨28, _⟩ => ⟨S8, .f32⟩
  | .hbm, ⟨29, _⟩ => ⟨S8x1, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S8x8240x1024, .f32⟩
  | .hbm, ⟨37, _⟩ => ⟨S_, .f32⟩
  | .hbm, ⟨38, _⟩ => ⟨S8x1024, .f32⟩
  | .hbm, ⟨39, _⟩ => ⟨S8x1024, .f32⟩
  | .hbm, ⟨40, _⟩ => ⟨S8x1024, .f32⟩
  | .hbm, ⟨41, _⟩ => ⟨S8x1024, .i32⟩
  | .hbm, ⟨42, _⟩ => ⟨S_, .f32⟩
  | .hbm, ⟨43, _⟩ => ⟨S_, .i32⟩
  | .hbm, ⟨44, _⟩ => ⟨S8, .f32⟩
  | .hbm, ⟨45, _⟩ => ⟨S8, .i32⟩
  | .hbm, ⟨46, _⟩ => ⟨S8x1, .i32⟩
  | .hbm, ⟨47, _⟩ => ⟨S1x1024, .i32⟩
  | .hbm, ⟨48, _⟩ => ⟨S8x1024, .i32⟩
  | .hbm, ⟨49, _⟩ => ⟨S8x1024, .i32⟩
  | .hbm, ⟨50, _⟩ => ⟨S8x1024, .i1⟩
  | .hbm, ⟨51, _⟩ => ⟨S8x1024, .f32⟩
  | .hbm, ⟨52, _⟩ => ⟨S8x1x1, .i32⟩
  | .hbm, ⟨53, _⟩ => ⟨S_, .i32⟩
  | .hbm, ⟨54, _⟩ => ⟨S8x1x1, .i32⟩
  | .hbm, ⟨55, _⟩ => ⟨S8x1x1, .i1⟩
  | .hbm, ⟨56, _⟩ => ⟨S_, .i32⟩
  | .hbm, ⟨57, _⟩ => ⟨S8x1x1, .i32⟩
  | .hbm, ⟨58, _⟩ => ⟨S8x1x1, .i32⟩
  | .hbm, ⟨59, _⟩ => ⟨S8x1x1, .i32⟩
  | .hbm, ⟨60, _⟩ => ⟨S1, .i32⟩
  | .hbm, ⟨61, _⟩ => ⟨S_, .i32⟩
  | .hbm, ⟨62, _⟩ => ⟨S8x1x1, .i32⟩
  | .hbm, ⟨63, _⟩ => ⟨S8x1x1, .i1⟩
  | .hbm, ⟨64, _⟩ => ⟨S1x1x1, .i32⟩
  | .hbm, ⟨65, _⟩ => ⟨S8x1x1, .i32⟩
  | .hbm, ⟨66, _⟩ => ⟨S8x1x1, .i1⟩
  | .hbm, ⟨67, _⟩ => ⟨S8x1x1, .i1⟩
  | .hbm, ⟨68, _⟩ => ⟨S_, .i1⟩
  | .hbm, ⟨69, _⟩ => ⟨S8x1, .i1⟩
  | .hbm, ⟨70, _⟩ => ⟨S8x8240x1, .f32⟩
  | .hbm, ⟨71, _⟩ => ⟨S8x8240x1, .i1⟩
  | .hbm, ⟨72, _⟩ => ⟨S_, .f32⟩
  | .hbm, ⟨73, _⟩ => ⟨S8x8240x1, .f32⟩
  | .hbm, ⟨74, _⟩ => ⟨S8x8240x1, .f32⟩
  | .hbm, ⟨75, _⟩ => ⟨S8x8240, .f32⟩
  | .hbm, ⟨76, _⟩ => ⟨S8x8240, .f32⟩
  | .hbm, ⟨77, _⟩ => ⟨S8x8240, .f32⟩
  | .hbm, ⟨78, _⟩ => ⟨S_, .f32⟩
  | .hbm, ⟨79, _⟩ => ⟨S8, .f32⟩
  | .hbm, ⟨80, _⟩ => ⟨S_, .f32⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S_, .f32⟩
  | .hbm, ⟨85, _⟩ => ⟨S1x8192, .f32⟩
  | .hbm, ⟨86, _⟩ => ⟨S_, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S512x512, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S1x512, .f32⟩
  | .hbm, ⟨106, _⟩ => ⟨S1x512, .f32⟩
  | .hbm, ⟨107, _⟩ => ⟨S512x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S128x256, .f32⟩
  | .hbm, ⟨112, _⟩ => ⟨S1x256, .f32⟩
  | .hbm, ⟨113, _⟩ => ⟨S1x256, .f32⟩
  | .hbm, ⟨114, _⟩ => ⟨S1x256, .f32⟩
  | .hbm, ⟨115, _⟩ => ⟨S_, .f32⟩
  | .hbm, ⟨116, _⟩ => ⟨S1x256, .f32⟩
  | .hbm, ⟨117, _⟩ => ⟨S1x256, .f32⟩
  | .hbm, ⟨118, _⟩ => ⟨S256x128, .f32⟩
  | .hbm, ⟨119, _⟩ => ⟨S1x128, .f32⟩
  | .hbm, ⟨120, _⟩ => ⟨S1x128, .f32⟩
  | .hbm, ⟨121, _⟩ => ⟨S1x128, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call1_v0 : Ref sig .tc := ⟨.hbm, 41, rfl⟩
abbrev main_call1_cst : Ref sig .tc := ⟨.hbm, 42, rfl⟩
abbrev main_call1_c : Ref sig .tc := ⟨.hbm, 43, rfl⟩
abbrev main_call1_v1_0 : Ref sig .tc := ⟨.hbm, 44, rfl⟩
abbrev main_v22 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v23 : Ref sig .tc := ⟨.hbm, 51, rfl⟩
abbrev main_v24 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_c_1 : Ref sig .tc := ⟨.hbm, 60, rfl⟩
abbrev main_call3_c_2 : Ref sig .tc := ⟨.hbm, 61, rfl⟩
abbrev main_call3_v5 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_c_3 : Ref sig .tc := ⟨.hbm, 68, rfl⟩
abbrev main_call3_v11 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_cst_2 : Ref sig .tc := ⟨.hbm, 78, rfl⟩
abbrev main_v29 : Ref sig .tc := ⟨.hbm, 79, rfl⟩
abbrev main_cst_3 : Ref sig .tc := ⟨.hbm, 80, rfl⟩
abbrev main_v30 : Ref sig .tc := ⟨.hbm, 81, rfl⟩
abbrev main_v31 : Ref sig .tc := ⟨.hbm, 82, rfl⟩
abbrev main_cst_4 : Ref sig .tc := ⟨.hbm, 83, rfl⟩
abbrev main_v32 : Ref sig .tc := ⟨.hbm, 84, rfl⟩
abbrev main_v33 : Ref sig .tc := ⟨.hbm, 85, rfl⟩
abbrev main_cst_5 : Ref sig .tc := ⟨.hbm, 86, rfl⟩
abbrev main_v34 : Ref sig .tc := ⟨.hbm, 87, rfl⟩
abbrev main_cst_6 : Ref sig .tc := ⟨.hbm, 88, rfl⟩
abbrev main_v35 : Ref sig .tc := ⟨.hbm, 89, rfl⟩
abbrev main_v36 : Ref sig .tc := ⟨.hbm, 90, rfl⟩
abbrev main_cst_7 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_8 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_call4_cst : Ref sig .tc := ⟨.hbm, 104, rfl⟩
abbrev main_call4_v0 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_call5_cst : Ref sig .tc := ⟨.hbm, 115, rfl⟩
abbrev main_call5_v0 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩

abbrev nD : Nat := 1
abbrev τ : Topo := Topo.v7x

variable {F : FTy → Type} [FloatOps F]
-- ==== Proof.Step.lean ====
/- What the idealised kernel's buffers hold after each grid point, in terms of the values its body computes: the hidden
   layer is computed once, a codebook's distances and squares accumulate over its five chunks, and the sum of the least
   distances grows once per codebook. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-! ## The blocks that are whole arrays -/

/-- Where each window stands at each point: the whole array, or the block of the point's codebook and chunk. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val / 5, t.val % 5, 0, 0]
    ∧ win0_12.index t = ![t.val / 5, t.val % 5, 0, 0] ∧ win0_13.index t = ![t.val / 5, t.val % 5, 0, 0]
    ∧ win0_14.index t = ![0, 0] ∧ win0_15.index t = ![0, 0] ∧ win0_16.index t = ![0, 0] ∧ t.val / 5 < 8 :=
  (by decide +kernel : ∀ t : Fin grid0.N, _)

/-- A window that holds its whole array holds the array at every point. -/
theorem blk0 (t : Fin cfg0.N) : iblk m c 0 t = V m c main_arg0 := by blk_ext! [iblk, idx t]
theorem blk1 (t : Fin cfg0.N) : iblk m c 1 t = V m c main_arg1 := by blk_ext! [iblk, idx t]
theorem blk2 (t : Fin cfg0.N) : iblk m c 2 t = V m c main_call0_v3 := by blk_ext! [iblk, idx t]
theorem blk3 (t : Fin cfg0.N) : iblk m c 3 t = V m c main_arg3 := by blk_ext! [iblk, idx t]
theorem blk4 (t : Fin cfg0.N) : iblk m c 4 t = V m c main_call0_v4 := by blk_ext! [iblk, idx t]
theorem blk5 (t : Fin cfg0.N) : iblk m c 5 t = V m c main_arg5 := by blk_ext! [iblk, idx t]
theorem blk6 (t : Fin cfg0.N) : iblk m c 6 t = V m c main_call0_v5 := by blk_ext! [iblk, idx t]
theorem blk7 (t : Fin cfg0.N) : iblk m c 7 t = V m c main_arg9 := by blk_ext! [iblk, idx t]
theorem blk8 (t : Fin cfg0.N) : iblk m c 8 t = V m c main_call0_v6 := by blk_ext! [iblk, idx t]
theorem blk9 (t : Fin cfg0.N) : iblk m c 9 t = V m c main_arg11 := by blk_ext! [iblk, idx t]
theorem blk10 (t : Fin cfg0.N) : iblk m c 10 t = V m c main_call0_v7 := by blk_ext! [iblk, idx t]

/-! ## The values that the body computes -/

/-- The hidden layer, as the first point computes it. -/
def hid : FVec Ideal S1x512 .f32 := k0_pay10 (V m c main_arg0) (V m c main_arg1) (V m c main_call0_v3)
/-- A chunk's share of the distances. -/
def con (t : Fin cfg0.N) : FVec Ideal S1x1024 .f32 := k0_pay14 (iblk m c 11 t) (iblk m c 13 t) (iblk m c 12 t) (hid m c)
/-- A chunk's squared inputs. -/
def sqs (t : Fin cfg0.N) : FVec Ideal S1x1x1648 .f32 := k0_pay15 (iblk m c 11 t) (iblk m c 12 t) (hid m c)
/-- The decoder's result, as the last point computes it. -/
def dec : FVec Ideal S1x128 .f32 :=
  k0_pay7 (V m c main_arg0) (V m c main_arg3) (V m c main_call0_v4) (V m c main_arg5) (V m c main_call0_v5)
    (V m c main_arg9) (V m c main_call0_v6) (V m c main_arg11) (V m c main_call0_v7)

/-! ## One point -/

/-- The sum of least distances after point `n`. -/
abbrev dif (n : ℕ) (h : n < cfg0.N) : FVec Ideal S1x1 .f32 := (outsAt0 m c n h).2.1
/-- The hidden layer held after point `n`. -/
abbrev pre (n : ℕ) (h : n < cfg0.N) : FVec Ideal S1x512 .f32 := (outsAt0 m c n h).2.2.2.1
/-- The distances held after point `n`. -/
abbrev acc (n : ℕ) (h : n < cfg0.N) : FVec Ideal S1x1024 .f32 := (outsAt0 m c n h).2.2.2.2.1
/-- The sum of squares held after point `n`. -/
abbrev zsq (n : ℕ) (h : n < cfg0.N) : FVec Ideal S1x1 .f32 := (outsAt0 m c n h).2.2.2.2.2

/-- The point before. -/
theorem prev_lt (t : Fin cfg0.N) : t.val - 1 < cfg0.N := lt_of_le_of_lt (Nat.sub_le _ _) t.isLt

/-- The first point stores the hidden layer. -/
theorem pre_A (t : Fin cfg0.N) (h0 : t.val % 40 = 0) (h1 : ¬t.val % 40 = 39) (h2 : t.val % 5 = 0) (h3 : ¬1 ≤ t.val % 5) (h4 : ¬t.val % 5 = 4) :
    pre m c t.val t.isLt = hid m c := by
  unfold pre hid
  rw [outsAt0_A m c t h0 h1 h2 h3 h4]
  frame_out
  rw [blk0, blk1, blk2]

/-- The first point stores zero. -/
theorem dif_A (t : Fin cfg0.N) (h0 : t.val % 40 = 0) (h1 : ¬t.val % 40 = 39) (h2 : t.val % 5 = 0) (h3 : ¬1 ≤ t.val % 5) (h4 : ¬t.val % 5 = 4) :
    dif m c t.val t.isLt = k0_pay11 (F := Ideal) := by
  unfold dif
  rw [outsAt0_A m c t h0 h1 h2 h3 h4]
  frame_out

/-- The first point stores its chunk's distances. -/
theorem acc_A (t : Fin cfg0.N) (h0 : t.val % 40 = 0) (h1 : ¬t.val % 40 = 39) (h2 : t.val % 5 = 0) (h3 : ¬1 ≤ t.val % 5) (h4 : ¬t.val % 5 = 4) :
    acc m c t.val t.isLt = k0_pay2 (con m c t) := by
  unfold acc con hid
  rw [outsAt0_A m c t h0 h1 h2 h3 h4]
  frame_out
  rw [blk0, blk1, blk2]

/-- The first point stores its chunk's sum of squares. -/
theorem zsq_A (t : Fin cfg0.N) (h0 : t.val % 40 = 0) (h1 : ¬t.val % 40 = 39) (h2 : t.val % 5 = 0) (h3 : ¬1 ≤ t.val % 5) (h4 : ¬t.val % 5 = 4) :
    zsq m c t.val t.isLt = k0_pay3 (sqs m c t) := by
  unfold zsq sqs hid
  rw [outsAt0_A m c t h0 h1 h2 h3 h4]
  frame_out
  rw [blk0, blk1, blk2]

/-- The later points keep the hidden layer. -/
theorem pre_keep (t : Fin cfg0.N) (h0 : ¬t.val % 40 = 0) : pre m c t.val t.isLt = pre m c (t.val - 1) (prev_lt t) := by
  unfold pre
  have hN : t.val < 40 := lt_of_lt_of_eq t.isLt N_0
  by_cases h1 : t.val % 40 = 39
  · rw [outsAt0_E m c t h0 h1 (by omega) (by omega) (by omega)]
    dsimp only [sout0_E_0]
  by_cases h2 : t.val % 5 = 0
  · rw [outsAt0_D m c t h0 h1 h2 (by omega) (by omega)]
    dsimp only [sout0_D_0]
  by_cases h4 : t.val % 5 = 4
  · rw [outsAt0_C m c t h0 h1 h2 (by omega) h4]
    dsimp only [sout0_C_0]
  · rw [outsAt0_B m c t h0 h1 h2 (by omega) h4]
    dsimp only [sout0_B_0]

/-- Every point holds the hidden layer. -/
theorem pre_eq : ∀ (n : ℕ) (h : n < cfg0.N), pre m c n h = hid m c
  | 0, h => pre_A m c ⟨0, h⟩ (Nat.zero_mod _) (by show ¬0 % 40 = 39; omega) (Nat.zero_mod _) (by show ¬1 ≤ 0 % 5; omega) (by show ¬0 % 5 = 4; omega)
  | n + 1, h => (pre_keep m c ⟨n + 1, h⟩ (by have := lt_of_lt_of_eq h N_0; show ¬(n + 1) % 40 = 0; omega)).trans (pre_eq n _)

/-- A codebook's first chunk stores its distances. -/
theorem acc_first (t : Fin cfg0.N) (h2 : t.val % 5 = 0) : acc m c t.val t.isLt = k0_pay2 (con m c t) := by
  have hN : t.val < 40 := lt_of_lt_of_eq t.isLt N_0
  by_cases h0 : t.val % 40 = 0
  · exact acc_A m c t h0 (by omega) h2 (by omega) (by omega)
  unfold acc con
  rw [← pre_eq m c (t.val - 1) (prev_lt t), outsAt0_D m c t h0 (by omega) h2 (by omega) (by omega)]
  frame_out
  simp only [read_unread_whole]

/-- A codebook's first chunk stores its sum of squares. -/
theorem zsq_first (t : Fin cfg0.N) (h2 : t.val % 5 = 0) : zsq m c t.val t.isLt = k0_pay3 (sqs m c t) := by
  have hN : t.val < 40 := lt_of_lt_of_eq t.isLt N_0
  by_cases h0 : t.val % 40 = 0
  · exact zsq_A m c t h0 (by omega) h2 (by omega) (by omega)
  unfold zsq sqs
  rw [← pre_eq m c (t.val - 1) (prev_lt t), outsAt0_D m c t h0 (by omega) h2 (by omega) (by omega)]
  frame_out
  simp only [read_unread_whole]

/-- A later chunk adds its distances to those before it. -/
theorem acc_next (t : Fin cfg0.N) (h2 : ¬t.val % 5 = 0) : acc m c t.val t.isLt = k0_pay4 (con m c t) (acc m c (t.val - 1) (prev_lt t)) := by
  have hN : t.val < 40 := lt_of_lt_of_eq t.isLt N_0
  unfold con
  rw [← pre_eq m c (t.val - 1) (prev_lt t)]
  unfold acc
  by_cases h1 : t.val % 40 = 39
  · rw [outsAt0_E m c t (by omega) h1 (by omega) (by omega) (by omega)]
    frame_out
    simp only [read_unread_whole]
  by_cases h4 : t.val % 5 = 4
  · rw [outsAt0_C m c t (by omega) h1 h2 (by omega) h4]
    frame_out
    simp only [read_unread_whole]
  · rw [outsAt0_B m c t (by omega) h1 h2 (by omega) h4]
    frame_out
    simp only [read_unread_whole]

/-- A later chunk adds its sum of squares to those before it. -/
theorem zsq_next (t : Fin cfg0.N) (h2 : ¬t.val % 5 = 0) : zsq m c t.val t.isLt = k0_pay5 (sqs m c t) (zsq m c (t.val - 1) (prev_lt t)) := by
  have hN : t.val < 40 := lt_of_lt_of_eq t.isLt N_0
  unfold sqs
  rw [← pre_eq m c (t.val - 1) (prev_lt t)]
  unfold zsq
  by_cases h1 : t.val % 40 = 39
  · rw [outsAt0_E m c t (by omega) h1 (by omega) (by omega) (by omega)]
    frame_out
    simp only [read_unread_whole]
  by_cases h4 : t.val % 5 = 4
  · rw [outsAt0_C m c t (by omega) h1 h2 (by omega) h4]
    frame_out
    simp only [read_unread_whole]
  · rw [outsAt0_B m c t (by omega) h1 h2 (by omega) h4]
    frame_out
    simp only [read_unread_whole]

/-- A chunk that is not the last of its codebook keeps the sum of least distances. -/
theorem dif_keep (t : Fin cfg0.N) (h0 : ¬t.val % 40 = 0) (h4 : ¬t.val % 5 = 4) : dif m c t.val t.isLt = dif m c (t.val - 1) (prev_lt t) := by
  have hN : t.val < 40 := lt_of_lt_of_eq t.isLt N_0
  unfold dif
  by_cases h2 : t.val % 5 = 0
  · rw [outsAt0_D m c t h0 (by omega) h2 (by omega) (by omega)]
    dsimp only [out0_D_15]
  · rw [outsAt0_B m c t h0 (by omega) h2 (by omega) h4]
    dsimp only [out0_B_15]

/-- The last chunk of a codebook adds the least of its distances, over the number of its rows. -/
theorem dif_next (t : Fin cfg0.N) (h4 : t.val % 5 = 4) :
    dif m c t.val t.isLt = k0_pay6 (acc m c t.val t.isLt) (zsq m c t.val t.isLt) (dif m c (t.val - 1) (prev_lt t)) := by
  have hN : t.val < 40 := lt_of_lt_of_eq t.isLt N_0
  rw [acc_next m c t (by omega), zsq_next m c t (by omega)]
  unfold con sqs
  rw [← pre_eq m c (t.val - 1) (prev_lt t)]
  unfold dif
  by_cases h1 : t.val % 40 = 39
  · rw [outsAt0_E m c t (by omega) h1 (by omega) (by omega) (by omega)]
    frame_out
    simp only [read_unread_whole]
  · rw [outsAt0_C m c t (by omega) h1 (by omega) (by omega) h4]
    frame_out
    simp only [read_unread_whole]

/-- The last point stores the decoder's result. -/
theorem dec_last (t : Fin cfg0.N) (h1 : t.val % 40 = 39) : (outsAt0 m c t.val t.isLt).1 = dec m c := by
  have hN : t.val < 40 := lt_of_lt_of_eq t.isLt N_0
  unfold dec
  rw [outsAt0_E m c t (by omega) h1 (by omega) (by omega) (by omega)]
  frame_out
  rw [blk0, blk3, blk4, blk5, blk6, blk7, blk8, blk9, blk10]

/-- The last point stores the perplexity. -/
theorem perp_last (t : Fin cfg0.N) (h1 : t.val % 40 = 39) : (outsAt0 m c t.val t.isLt).2.2.1 = k0_pay12 (F := Ideal) k0_pay8 k0_pay9 := by
  have hN : t.val < 40 := lt_of_lt_of_eq t.isLt N_0
  rw [outsAt0_E m c t (by omega) h1 (by omega) (by omega) (by omega)]
  frame_out

/-! ## The arrays after the region -/

/-- The decoder's array after the region. -/
theorem final14 : (dats m 0 c).arrAt 14 cfg0.N = dec m c := by
  refine (dats m 0 c).arrAt_eq_of_covers 14 _ (by decide +kernel) fun t hf y => ?_
  blk_simp
  rw [after0_14, dec_last m c t ((flush0_14 t).mp hf)]
  blk_ext [idx t]

/-- The perplexity's array after the region. -/
theorem final16 : (dats m 0 c).arrAt 16 cfg0.N = k0_pay12 (F := Ideal) k0_pay8 k0_pay9 := by
  refine (dats m 0 c).arrAt_eq_of_covers 16 _ (by decide +kernel) fun t hf y => ?_
  blk_simp
  rw [after0_16, perp_last m c t ((flush0_16 t).mp hf)]
  blk_ext [idx t]

/-- The sum's array after the region. -/
theorem final15 (G : FVec Ideal S1x1 .f32) (hG : ∀ t : Fin cfg0.N, t.val % 40 = 39 → dif m c t.val t.isLt = G) : (dats m 0 c).arrAt 15 cfg0.N = G := by
  refine (dats m 0 c).arrAt_eq_of_covers 15 _ (by decide +kernel) fun t hf y => ?_
  blk_simp
  rw [after0_15]
  unfold dif at hG
  rw [hG t ((flush0_15 t).mp hf)]
  blk_ext [idx t]

/-! ## The run -/

/-- The lines after the region leave the second result at the sum's array, reshaped. -/
theorem tail1 : Pipeline.afterTail₀ cfgs (dats m) 0 (V0 m) [hostOps1] c main_v0_1
    = shapeCast S_ ((dats m 0 c).arrAt 15 cfg0.N : FVec Ideal S1x1 .f32) shapeCasts_S1x1_S_ := by
  unfold Pipeline.afterTail₀
  rw [← Pipeline.withArrays_arr spec0 (by decide) c (V0 m c) (fun w => (dats m 0 c).arrAt w cfg0.N) 15]
  simp only [hostOps1, List.flatten_cons, List.flatten_nil, List.append_nil]
  after_results_simp <;> rfl

/-- The lines after the region leave the third result at the perplexity's array, reshaped. -/
theorem tail2 : Pipeline.afterTail₀ cfgs (dats m) 0 (V0 m) [hostOps1] c main_v0_2
    = shapeCast S_ ((dats m 0 c).arrAt 16 cfg0.N : FVec Ideal S1x1 .f32) shapeCasts_S1x1_S_ := by
  unfold Pipeline.afterTail₀
  rw [← Pipeline.withArrays_arr spec0 (by decide) c (V0 m c) (fun w => (dats m 0 c).arrAt w cfg0.N) 16]
  simp only [hostOps1, List.flatten_cons, List.flatten_nil, List.append_nil]
  after_results_simp <;> rfl

/-- Window `w`'s array is staged and never written back: it ends as the region found it. -/
theorem staged (r : PUnit × MemSt nD τ sig (Elt Ideal))
    (h : Pipeline.FramePost cfgs (dats m) 0 (Pipeline.afterTail₀ cfgs (dats m) 0 (V0 m) [hostOps1]) r) (w : Fin 17) (hw : (cfg0.win w).isOut = false) :
    r.2.mem ((cfg0.spec w).arr.view.loc (c : Thread nD τ)) = V m c (Pipeline.arrRef spec0 w) :=
  ((h c).1 w).trans (((dats m 0 c).arrAt_in w hw _).trans (A_eq m c w))

/-- THE RUN: the kernel ends with the decoder's result, the sum of least distances `G` and the perplexity in its result
    buffers, and with its arguments as launched. -/
theorem run (ρ : Dev nD → PrngReg) (G : Dev nD → FVec Ideal S1x1 .f32)
    (hG : ∀ (c : Dev nD) (t : Fin cfg0.N), t.val % 40 = 39 → dif m c t.val t.isLt = G c) :
    θ_run defs (onTc (τ := τ) (main (F := Ideal))) ⟨m, fun _ => 0, ρ⟩ fun r => ∀ c : Dev nD,
      r.2.mem ((c : Thread nD τ).loc main_v0_0) = dec m c
      ∧ r.2.mem ((c : Thread nD τ).loc main_v0_1) = shapeCast S_ (G c) shapeCasts_S1x1_S_
      ∧ r.2.mem ((c : Thread nD τ).loc main_v0_2) = shapeCast S_ (k0_pay12 (F := Ideal) k0_pay8 k0_pay9) shapeCasts_S1x1_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨((h c).1 14).trans (final14 m c),
      (((h c).2 main_v0_1 (Pipeline.mem_restRefs_of main_v0_1 (by decide) (by decide))).trans
        ((tail1 m c).trans (congrArg (fun v => shapeCast S_ v shapeCasts_S1x1_S_) (final15 m c (G c) (hG c))))),
      (((h c).2 main_v0_2 (Pipeline.mem_restRefs_of main_v0_2 (by decide) (by decide))).trans
        ((tail2 m c).trans (congrArg (fun v => shapeCast S_ v shapeCasts_S1x1_S_) (final16 m c)))),
      (staged m c r h 0 rfl).trans (V_main_arg0 m c),
      (staged m c r h 1 rfl).trans (V_main_arg1 m c),
      ((h c).2 main_arg2 (Pipeline.mem_restRefs_of main_arg2 (by decide) (by decide))).trans (W_main_arg2 m (dats m) c),
      (staged m c r h 3 rfl).trans (V_main_arg3 m c),
      ((h c).2 main_arg4 (Pipeline.mem_restRefs_of main_arg4 (by decide) (by decide))).trans (W_main_arg4 m (dats m) c),
      (staged m c r h 5 rfl).trans (V_main_arg5 m c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      (staged m c r h 7 rfl).trans (V_main_arg9 m c),
      ((h c).2 main_arg10 (Pipeline.mem_restRefs_of main_arg10 (by decide) (by decide))).trans (W_main_arg10 m (dats m) c),
      (staged m c r h 9 rfl).trans (V_main_arg11 m c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.Hand

end
-- ==== Proof.Math.lean ====
/- The real arithmetic behind the least distances, apart from any program: the expanded square that a codebook's chunks
   add up to, and its least value over the code words. -/
module

public import Idealize.ShloMosaic.Lib.Pointwise

@[expose] public section

noncomputable section

namespace Cert.Quantise

open Idealize.ShloMosaic

/-- Two as an extended real, by its bits. -/
abbrev two : EReal := Ideal.ofBits .f32 0x40000000#32
/-- The number of a codebook's rows as an extended real, by its bits. -/
abbrev rows : EReal := Ideal.ofBits .f32 0x4600C000#32

theorem two_eq : two = ((2 : ℝ) : EReal) := by simp [two, Ideal.ofBits, Ideal.ieee, -EReal.coe_mul]; norm_num
theorem rows_eq : rows = ((8240 : ℝ) : EReal) := by simp [rows, Ideal.ofBits, Ideal.ieee, -EReal.coe_mul]; norm_num

/-- Row `r` of chunk `s`. -/
abbrev row (s : Fin 5) (r : Fin 1648) : Fin 8240 := ⟨s.val * 1648 + r.val, by omega⟩

/-- The hidden layer. -/
def hidden (x : Fin 512 → EReal) (w : Fin 512 → Fin 512 → EReal) (b : Fin 512 → EReal) (l : Fin 512) : EReal :=
  max ((∑ k : Fin 512, x k * w l k) + b l) 0

/-- One codebook's input. -/
def input (h : Fin 512 → EReal) (w : Fin 65920 → Fin 512 → EReal) (b : Fin 65920 → EReal) (k : Fin 8) (d : Fin 8240) : EReal :=
  (∑ l : Fin 512, h l * w ⟨k.val * 8240 + d.val, by omega⟩ l) + b ⟨k.val * 8240 + d.val, by omega⟩

/-- A distance as the chunks add up to it. -/
def chunked (z e : Fin 8240 → EReal) : EReal :=
  (∑ s : Fin 5, ((∑ r : Fin 1648, e (row s r) * e (row s r)) - two * ∑ r : Fin 1648, z (row s r) * e (row s r)))
    + ∑ s : Fin 5, ∑ r : Fin 1648, z (row s r) * z (row s r)

/-- A distance as the reference expands it. -/
def expanded (z e : Fin 8240 → EReal) : EReal := ((∑ d, z d * z d) - two * ∑ d, z d * e d) + ∑ d, e d * e d

/-- The square of the difference, summed. -/
def square (z e : Fin 8240 → EReal) : EReal := ∑ d, (e d - z d) * (e d - z d)

/-- A sum of reals is the same in the extended reals. -/
theorem coe_sum' {n : ℕ} (f : Fin n → ℝ) : (∑ i, (f i : EReal)) = ((∑ i, f i : ℝ) : EReal) := by
  induction n with
  | zero => simp
  | succ n ih => rw [Fin.sum_univ_castSucc, Fin.sum_univ_castSucc, ih, EReal.coe_add]

/-- A sum over the chunks' rows is the sum over all rows. -/
theorem tiles (f : Fin 8240 → ℝ) : ∑ s : Fin 5, ∑ r : Fin 1648, f (row s r) = ∑ d, f d := (Fin.sum_univ_tiles 5 1648 rfl f).symm

/-- Over reals, the summed square is the real one. -/
theorem square_coe (z e : Fin 8240 → ℝ) : square (fun d => z d) (fun d => e d) = ((∑ d, (e d - z d) ^ 2 : ℝ) : EReal) := by
  unfold square
  simp only [← EReal.coe_sub, ← EReal.coe_mul, coe_sum', pow_two]

/-- Over reals, the reference's expanded distance is the summed square. -/
theorem expanded_coe (z e : Fin 8240 → ℝ) : expanded (fun d => z d) (fun d => e d) = ((∑ d, (e d - z d) ^ 2 : ℝ) : EReal) := by
  unfold expanded
  rw [two_eq]
  simp only [← EReal.coe_sub, ← EReal.coe_mul, ← EReal.coe_add, coe_sum']
  refine congrArg Real.toEReal ?_
  rw [Finset.mul_sum, ← Finset.sum_sub_distrib, ← Finset.sum_add_distrib]
  exact Finset.sum_congr rfl fun d _ => by ring

/-- Over reals, the chunks' distance is the summed square. -/
theorem chunked_coe (z e : Fin 8240 → ℝ) : chunked (fun d => z d) (fun d => e d) = ((∑ d, (e d - z d) ^ 2 : ℝ) : EReal) := by
  unfold chunked
  rw [two_eq]
  simp only [← EReal.coe_sub, ← EReal.coe_mul, ← EReal.coe_add, coe_sum']
  refine congrArg Real.toEReal ?_
  rw [Finset.sum_sub_distrib, ← Finset.mul_sum, tiles (fun d => e d * e d), tiles (fun d => z d * e d), tiles (fun d => z d * z d),
    Finset.mul_sum, ← Finset.sum_sub_distrib, ← Finset.sum_add_distrib]
  exact Finset.sum_congr rfl fun d _ => by ring

/-- Over finite inputs, the least of the chunked distances is the square of the difference at the code word whose expanded
    distance is least. -/
theorem least_eq (z : Fin 8240 → EReal) (e : Fin 8240 → Fin 1024 → EReal) (hz : ∀ d, ∃ v : ℝ, z d = v) (he : ∀ d n, ∃ v : ℝ, e d n = v)
    (κ : Fin 1024) (hκ : ∀ n, expanded z (fun d => e d κ) ≤ expanded z (fun d => e d n)) :
    (Finset.univ.inf fun n : Fin 1024 => chunked z fun d => e d n) = square z fun d => e d κ := by
  choose zr hzr using hz
  choose er her using he
  obtain rfl : z = fun d => (zr d : EReal) := funext hzr
  obtain rfl : e = fun d n => (er d n : EReal) := funext fun d => funext fun n => her d n
  have h1 : ∀ n, chunked (fun d => (zr d : EReal)) (fun d => (er d n : EReal)) = expanded (fun d => (zr d : EReal)) (fun d => (er d n : EReal)) :=
    fun n => (chunked_coe zr fun d => er d n).trans (expanded_coe zr fun d => er d n).symm
  rw [square_coe zr fun d => er d κ, ← expanded_coe zr fun d => er d κ]
  refine le_antisymm ((Finset.inf_le (Finset.mem_univ κ)).trans_eq (h1 κ)) (Finset.le_inf fun n _ => (hκ n).trans_eq (h1 n).symm)

/-- The hidden layer of finite arrays is finite. -/
theorem hidden_fin (x : Fin 512 → EReal) (w : Fin 512 → Fin 512 → EReal) (b : Fin 512 → EReal) (hx : ∀ l, ∃ v : ℝ, x l = v)
    (hw : ∀ l k, ∃ v : ℝ, w l k = v) (hb : ∀ l, ∃ v : ℝ, b l = v) (l : Fin 512) : ∃ v : ℝ, hidden x w b l = v := by
  choose xr hx using hx
  choose wr hw using hw
  choose br hb using hb
  refine ⟨max ((∑ k, xr k * wr l k) + br l) 0, ?_⟩
  unfold hidden
  simp only [hx, hw, hb, ← EReal.coe_mul, coe_sum', ← EReal.coe_add, ← EReal.coe_zero]
  exact (EReal.coe_strictMono.monotone.map_max).symm

/-- A codebook's input is finite over finite arrays. -/
theorem input_fin (h : Fin 512 → EReal) (w : Fin 65920 → Fin 512 → EReal) (b : Fin 65920 → EReal) (hh : ∀ l, ∃ v : ℝ, h l = v)
    (hw : ∀ l k, ∃ v : ℝ, w l k = v) (hb : ∀ l, ∃ v : ℝ, b l = v) (k : Fin 8) (d : Fin 8240) : ∃ v : ℝ, input h w b k d = v := by
  choose hr hh using hh
  choose wr hw using hw
  choose br hb using hb
  refine ⟨(∑ l, hr l * wr ⟨k.val * 8240 + d.val, by omega⟩ l) + br ⟨k.val * 8240 + d.val, by omega⟩, ?_⟩
  unfold input
  simp only [hh, hw, hb, ← EReal.coe_mul, coe_sum', ← EReal.coe_add]

end Cert.Quantise

end
-- ==== Proof.Payload.lean ====
/- The values that the idealised kernel's body computes, read at an index. -/
module

public import proofs.«01_k».proof.Proof.Gen.KernelIdeal.Skeleton
public import proofs.«01_k».proof.Proof.Math

@[expose] public section

set_option maxRecDepth 16384

noncomputable section

namespace Cert.KernelIdeal.Hand

open Idealize.ShloMosaic Idealize.ShloMosaic.TcCoe
open Cert.KernelIdeal Cert.KernelIdeal.Gen
open Cert.Quantise (two rows)

/-- A codebook's first chunk stores its share of the distances. -/
theorem pay2_at (v : FVec Ideal S1x1024 .f32) (j : S1x1024.Idx) : k0_pay2 v j = v j := by
  pointwise! [k0_pay2]

/-- A codebook's first chunk stores its sum of squares. -/
theorem pay3_at (v : FVec Ideal S1x1x1648 .f32) (a b : Fin 1) : k0_pay3 v (ix2 a b) = ∑ r : Fin 1648, v (ix3 0 0 r) := by
  pointwise [k0_pay3, k0_pay1]
  exact Fintype.sum_unique _

/-- A later chunk adds its share to the distances. -/
theorem pay4_at (v a : FVec Ideal S1x1024 .f32) (j : S1x1024.Idx) : k0_pay4 v a j = a j + v j := by
  pointwise! [k0_pay4]

/-- A later chunk adds its sum of squares. -/
theorem pay5_at (v : FVec Ideal S1x1x1648 .f32) (d : FVec Ideal S1x1 .f32) (a b : Fin 1) :
    k0_pay5 v d (ix2 a b) = d (ix2 a b) + ∑ r : Fin 1648, v (ix3 0 0 r) := by
  pointwise [k0_pay5, k0_pay1]
  exact congrArg _ (Fintype.sum_unique _)

/-- The bits of the least distance's initial value are those of infinity. -/
theorem top_bits : Ideal.ofBits .f32 0x7F800000#32 = ⊤ := by simp [Ideal.ofBits, Ideal.ieee]

/-- A minimum over one row of pairs is the minimum over the row. -/
theorem inf_row (f : Fin 1024 → EReal) : (Finset.fold min ⊤ (fun x : Fin 1 × Fin 1024 => f x.2) Finset.univ) = Finset.univ.inf f :=
  le_antisymm (Finset.le_inf fun n _ => Finset.inf_le (f := fun x : Fin 1 × Fin 1024 => f x.2) (Finset.mem_univ ((0 : Fin 1), n)))
    (Finset.le_inf fun x _ => Finset.inf_le (Finset.mem_univ x.2))

/-- A codebook's last chunk adds the least distance over the number of rows. -/
theorem pay6_at (a : FVec Ideal S1x1024 .f32) (z d : FVec Ideal S1x1 .f32) (i j : Fin 1) :
    k0_pay6 a z d (ix2 i j) = d (ix2 i j) + Ideal.div (Finset.univ.inf fun n : Fin 1024 => a (ix2 0 n) + z (ix2 0 0)) rows := by
  pointwise [k0_pay6]
  rw [top_bits]
  exact congrArg (fun v => d (ix2 i j) + Ideal.div v rows) (inf_row fun n => a (ix2 0 n) + z (ix2 0 0))

/-- The sum of least distances starts at zero. -/
theorem pay11_at (j : S1x1.Idx) : k0_pay11 (F := Ideal) j = 0 := by
  pointwise! [k0_pay11]

/-- A chunk's input: the hidden layer times the chunk's weights, and the bias. -/
theorem pay13_at (w : FVec Ideal S1x1x1648x512 .f32) (b : FVec Ideal S1x1x1x1648 .f32) (h : FVec Ideal S1x512 .f32) (i : Fin 1) (r : Fin 1648) :
    k0_pay13 w b h (ix2 i r) = (∑ l : Fin 512, h (ix2 0 l) * w (ix4 0 0 r l)) + b (ix4 0 0 0 r) := by
  obtain rfl : i = 0 := Subsingleton.elim _ _
  pointwise! [k0_pay13]

/-- A chunk's squares are those of its input. -/
theorem pay15_at (w : FVec Ideal S1x1x1648x512 .f32) (b : FVec Ideal S1x1x1x1648 .f32) (h : FVec Ideal S1x512 .f32) (i j : Fin 1) (r : Fin 1648) :
    k0_pay15 (F := Ideal) w b h (ix3 i j r) = k0_pay13 (F := Ideal) w b h (ix2 0 r) * k0_pay13 (F := Ideal) w b h (ix2 0 r) := by
  pointwise! [k0_pay15]

/-- A chunk's share of the distances: the code words' squares less twice their products with the input. -/
theorem pay14_at (w : FVec Ideal S1x1x1648x512 .f32) (e : FVec Ideal S1x1x1648x1024 .f32) (b : FVec Ideal S1x1x1x1648 .f32) (h : FVec Ideal S1x512 .f32)
    (i : Fin 1) (n : Fin 1024) :
    k0_pay14 w e b h (ix2 i n) = (∑ r : Fin 1648, e (ix4 0 0 r n) * e (ix4 0 0 r n))
      - two * ∑ r : Fin 1648, k0_pay13 w b h (ix2 0 r) * e (ix4 0 0 r n) := by
  obtain rfl : i = 0 := Subsingleton.elim _ _
  pointwise! [k0_pay14]

/-- The hidden layer: a linear map, cut off at zero. -/
theorem pay10_at (x : FVec Ideal S1x512 .f32) (w : FVec Ideal S512x512 .f32) (b : FVec Ideal S1x512 .f32) (i : Fin 1) (l : Fin 512) :
    k0_pay10 x w b (ix2 i l) = max ((∑ k : Fin 512, x (ix2 0 k) * w (ix2 l k)) + b (ix2 0 l)) 0 := by
  obtain rfl : i = 0 := Subsingleton.elim _ _
  pointwise! [k0_pay10]

end Cert.KernelIdeal.Hand

end
-- ==== Proof.Fold.lean ====
/- The idealised kernel's sum of least distances, over its argument arrays. -/
module

public import proofs.«01_k».proof.Proof.Step
public import proofs.«01_k».proof.Proof.Payload
public import Idealize.ShloMosaic.Lib.Claim

@[expose] public section

set_option maxRecDepth 16384

noncomputable section

namespace Cert.KernelIdeal.Hand

open Idealize.ShloMosaic Idealize.ShloMosaic.TcCoe Idealize.SL.Sem
open Cert.KernelIdeal Cert.KernelIdeal.Gen
open Cert.Quantise (two rows row input chunked)

variable (m : (ℓ : Loc nD τ sig) → Buf (Elt Ideal) ℓ) (c : Dev nD)

/-! ## The arguments -/

/-- The argument arrays that the distances are made of, by their places. -/
abbrev arr0 : FVec Ideal S1x512 .f32 := m ((c : Thread nD τ).loc main_arg0)
abbrev arr1 : FVec Ideal S512x512 .f32 := m ((c : Thread nD τ).loc main_arg1)
abbrev arr2 : FVec Ideal S512 .f32 := m ((c : Thread nD τ).loc main_arg2)
abbrev arr7 : FVec Ideal S65920x512 .f32 := m ((c : Thread nD τ).loc main_arg7)
abbrev arr8 : FVec Ideal S65920 .f32 := m ((c : Thread nD τ).loc main_arg8)
abbrev arr13 : FVec Ideal S8x8240x1024 .f32 := m ((c : Thread nD τ).loc main_arg13)

/-- The hidden layer of the arguments. -/
def hidA (l : Fin 512) : EReal := Quantise.hidden (fun k => arr0 m c (ix2 0 k)) (fun l k => arr1 m c (ix2 l k)) (fun l => arr2 m c (ix1 l)) l
/-- The codebooks' inputs, of the arguments. -/
def inpA (k : Fin 8) (d : Fin 8240) : EReal := input (hidA m c) (fun q l => arr7 m c (ix2 q l)) (fun q => arr8 m c (ix1 q)) k d

/-! The region finds each reshaped argument at the argument's reshape. -/

theorem ent7 : V m c main_call0_v0 = shapeCast S8x5x1648x512 (arr7 m c) shapeCasts_S65920x512_S8x5x1648x512 := by entry_read; rfl
theorem ent8 : V m c main_call0_v1 = shapeCast S8x5x1x1648 (arr8 m c) shapeCasts_S65920_S8x5x1x1648 := by entry_read; rfl
theorem ent13 : V m c main_call0_v2 = shapeCast S8x5x1648x1024 (arr13 m c) shapeCasts_S8x8240x1024_S8x5x1648x1024 := by entry_read; rfl
theorem ent2 : V m c main_call0_v3 = shapeCast S1x512 (arr2 m c) shapeCasts_S512_S1x512 := by entry_read; rfl

/-- The hidden layer that the first point stores is that of the arguments. -/
theorem hid_at (l : Fin 512) : hid m c (ix2 0 l) = hidA m c l := by
  unfold hid hidA Quantise.hidden
  rw [pay10_at, ent2, V_main_arg0, V_main_arg1]
  pointwise!

/-- The codebook of a point. -/
abbrev bk (t : Fin cfg0.N) : Fin 8 := ⟨t.val / 5, by have := lt_of_lt_of_eq t.isLt N_0; omega⟩
/-- The chunk of a point. -/
abbrev ch (t : Fin cfg0.N) : Fin 5 := ⟨t.val % 5, by omega⟩

/-! The windows over reshaped arguments: the reshape read at an index, and the block read at its place. -/

/-- The reshaped weights at a codebook, a chunk and a row are the weights at that row of the whole. -/
theorem cast7_at (a : FVec Ideal S65920x512 .f32) (k : Fin 8) (s : Fin 5) (r : Fin 1648) (l : Fin 512) :
    shapeCast S8x5x1648x512 a shapeCasts_S65920x512_S8x5x1648x512 (ix4 k s r l) = a (ix2 ⟨k.val * 8240 + (s.val * 1648 + r.val), by omega⟩ l) := by
  pointwise
  exact congrArg (fun q => a (ix2 q l)) (Fin.ext (Nat.add_assoc _ _ _))

/-- The reshaped bias likewise. -/
theorem cast8_at (a : FVec Ideal S65920 .f32) (k : Fin 8) (s : Fin 5) (r : Fin 1648) :
    shapeCast S8x5x1x1648 a shapeCasts_S65920_S8x5x1x1648 (ix4 k s 0 r) = a (ix1 ⟨k.val * 8240 + (s.val * 1648 + r.val), by omega⟩) := by
  pointwise
  exact congrArg (fun q => a (ix1 q)) (Fin.ext (Nat.add_assoc _ _ _))

/-- The reshaped code words likewise. -/
theorem cast13_at (a : FVec Ideal S8x8240x1024 .f32) (k : Fin 8) (s : Fin 5) (r : Fin 1648) (n : Fin 1024) :
    shapeCast S8x5x1648x1024 a shapeCasts_S8x8240x1024_S8x5x1648x1024 (ix4 k s r n) = a (ix3 k (row s r) n) := by
  pointwise

/-- A point's block of the weights, over the argument. -/
theorem blk11 (t : Fin cfg0.N) (r : Fin 1648) (l : Fin 512) :
    (iblk m c 11 t : FVec Ideal S1x1x1648x512 .f32) (ix4 0 0 r l)
      = arr7 m c (ix2 ⟨(bk t).val * 8240 + ((ch t).val * 1648 + r.val), by have := (bk t).isLt; have := (ch t).isLt; omega⟩ l) := by
  refine Eq.trans (b := V m c main_call0_v0 (ix4 (bk t) (ch t) r l)) ?_ ?_
  · blk_ext [iblk, idx t]
  · rw [ent7]
    exact cast7_at (arr7 m c) (bk t) (ch t) r l

/-- A point's block of the bias, over the argument. -/
theorem blk12 (t : Fin cfg0.N) (r : Fin 1648) :
    (iblk m c 12 t : FVec Ideal S1x1x1x1648 .f32) (ix4 0 0 0 r)
      = arr8 m c (ix1 ⟨(bk t).val * 8240 + ((ch t).val * 1648 + r.val), by have := (bk t).isLt; have := (ch t).isLt; omega⟩) := by
  refine Eq.trans (b := V m c main_call0_v1 (ix4 (bk t) (ch t) 0 r)) ?_ ?_
  · blk_ext [iblk, idx t]
  · rw [ent8]
    exact cast8_at (arr8 m c) (bk t) (ch t) r

/-- A point's block of the code words, over the argument. -/
theorem blk13 (t : Fin cfg0.N) (r : Fin 1648) (n : Fin 1024) :
    (iblk m c 13 t : FVec Ideal S1x1x1648x1024 .f32) (ix4 0 0 r n) = arr13 m c (ix3 (bk t) (row (ch t) r) n) := by
  refine Eq.trans (b := V m c main_call0_v2 (ix4 (bk t) (ch t) r n)) ?_ ?_
  · blk_ext [iblk, idx t]
  · rw [ent13]
    exact cast13_at (arr13 m c) (bk t) (ch t) r n

/-! ## A chunk's values -/

/-- A point's chunk of the codebook's input, over the arguments. -/
theorem z_at (t : Fin cfg0.N) (r : Fin 1648) :
    k0_pay13 (F := Ideal) (iblk m c 11 t) (iblk m c 12 t) (hid m c) (ix2 0 r) = inpA m c (bk t) (row (ch t) r) := by
  unfold inpA input
  rw [pay13_at, blk12]
  simp only [hid_at, blk11]

/-- A chunk's share of the distances. -/
theorem con_at (t : Fin cfg0.N) (n : Fin 1024) :
    con m c t (ix2 0 n) = (∑ r : Fin 1648, arr13 m c (ix3 (bk t) (row (ch t) r) n) * arr13 m c (ix3 (bk t) (row (ch t) r) n))
      - two * ∑ r : Fin 1648, inpA m c (bk t) (row (ch t) r) * arr13 m c (ix3 (bk t) (row (ch t) r) n) := by
  unfold con
  rw [pay14_at]
  simp only [z_at, blk13]

/-- A chunk's squared input. -/
theorem sqs_at (t : Fin cfg0.N) (r : Fin 1648) :
    sqs m c t (ix3 0 0 r) = inpA m c (bk t) (row (ch t) r) * inpA m c (bk t) (row (ch t) r) := by
  unfold sqs
  rw [pay15_at, z_at]

/-! ## A codebook -/

theorem pt_lt (k : Fin 8) (s : Fin 5) : k.val * 5 + s.val < cfg0.N :=
  lt_of_lt_of_eq (by omega : k.val * 5 + s.val < 40) N_0.symm

/-- The point of codebook `k` and chunk `s`. -/
def pt (k : Fin 8) (s : Fin 5) : Fin cfg0.N := ⟨k.val * 5 + s.val, pt_lt k s⟩

theorem bk_pt (k : Fin 8) (s : Fin 5) : bk (pt k s) = k := Fin.ext (by show (k.val * 5 + s.val) / 5 = k.val; omega)
theorem ch_pt (k : Fin 8) (s : Fin 5) : ch (pt k s) = s := Fin.ext (by show (k.val * 5 + s.val) % 5 = s.val; omega)

/-! The steps between a point and the one after it. -/

theorem acc_succ (n : ℕ) (h : n + 1 < cfg0.N) (h2 : ¬(n + 1) % 5 = 0) :
    acc m c (n + 1) h = k0_pay4 (con m c ⟨n + 1, h⟩) (acc m c n (Nat.lt_of_succ_lt h)) := acc_next m c ⟨n + 1, h⟩ h2
theorem zsq_succ (n : ℕ) (h : n + 1 < cfg0.N) (h2 : ¬(n + 1) % 5 = 0) :
    zsq m c (n + 1) h = k0_pay5 (sqs m c ⟨n + 1, h⟩) (zsq m c n (Nat.lt_of_succ_lt h)) := zsq_next m c ⟨n + 1, h⟩ h2
theorem dif_same (n : ℕ) (h : n + 1 < cfg0.N) (h0 : ¬(n + 1) % 40 = 0) (h4 : ¬(n + 1) % 5 = 4) :
    dif m c (n + 1) h = dif m c n (Nat.lt_of_succ_lt h) := dif_keep m c ⟨n + 1, h⟩ h0 h4
theorem dif_succ (n : ℕ) (h : n + 1 < cfg0.N) (h4 : (n + 1) % 5 = 4) :
    dif m c (n + 1) h = k0_pay6 (acc m c (n + 1) h) (zsq m c (n + 1) h) (dif m c n (Nat.lt_of_succ_lt h)) := dif_next m c ⟨n + 1, h⟩ h4

/-- The distances held after a codebook's last chunk are the shares of its chunks. -/
theorem acc_run (k : Fin 8) (n : Fin 1024) (b : ℕ) (hb : k.val * 5 = b) (h : b + 4 < cfg0.N) :
    acc m c (b + 4) h (ix2 0 n) = ∑ q : Fin 5, con m c (pt k q) (ix2 0 n) := by
  subst hb
  rw [acc_succ m c (k.val * 5 + 3) h (by omega), pay4_at, acc_succ m c (k.val * 5 + 2) _ (by omega), pay4_at,
    acc_succ m c (k.val * 5 + 1) _ (by omega), pay4_at, acc_succ m c (k.val * 5) _ (by omega), pay4_at,
    show acc m c (k.val * 5) _ = k0_pay2 (con m c ⟨k.val * 5, pt_lt k 0⟩) from acc_first m c ⟨k.val * 5, pt_lt k 0⟩ (by show k.val * 5 % 5 = 0; omega), pay2_at,
    Fin.sum_univ_five]
  rfl

/-- The sum of squares held after a codebook's last chunk is that of its chunks. -/
theorem zsq_run (k : Fin 8) (b : ℕ) (hb : k.val * 5 = b) (h : b + 4 < cfg0.N) :
    zsq m c (b + 4) h (ix2 0 0) = ∑ q : Fin 5, ∑ r : Fin 1648, sqs m c (pt k q) (ix3 0 0 r) := by
  subst hb
  rw [zsq_succ m c (k.val * 5 + 3) h (by omega), pay5_at, zsq_succ m c (k.val * 5 + 2) _ (by omega), pay5_at,
    zsq_succ m c (k.val * 5 + 1) _ (by omega), pay5_at, zsq_succ m c (k.val * 5) _ (by omega), pay5_at,
    show zsq m c (k.val * 5) _ = k0_pay3 (sqs m c ⟨k.val * 5, pt_lt k 0⟩) from zsq_first m c ⟨k.val * 5, pt_lt k 0⟩ (by show k.val * 5 % 5 = 0; omega), pay3_at,
    Fin.sum_univ_five]
  rfl

/-- What a codebook adds to the sum: the least of its distances over the number of its rows. -/
def gain (k : Fin 8) : EReal :=
  Ideal.div (Finset.univ.inf fun n : Fin 1024 => chunked (inpA m c k) fun d => arr13 m c (ix3 k d n)) rows

/-- After a codebook's last chunk, the two accumulators add up to its distances. -/
theorem dist_at (k : Fin 8) (n : Fin 1024) (h : k.val * 5 + 4 < cfg0.N) :
    acc m c (k.val * 5 + 4) h (ix2 0 n) + zsq m c (k.val * 5 + 4) h (ix2 0 0) = chunked (inpA m c k) fun d => arr13 m c (ix3 k d n) := by
  rw [acc_run m c k n _ rfl, zsq_run m c k _ rfl]
  unfold chunked
  simp only [con_at, sqs_at, bk_pt, ch_pt]

/-- A codebook's last chunk adds its gain. -/
theorem dif_gain (k : Fin 8) (h : k.val * 5 + 4 < cfg0.N) (h' : k.val * 5 + 3 < cfg0.N) :
    dif m c (k.val * 5 + 4) h (ix2 0 0) = dif m c (k.val * 5 + 3) h' (ix2 0 0) + gain m c k := by
  rw [dif_succ m c (k.val * 5 + 3) h (by omega), pay6_at]
  unfold gain
  simp only [← dist_at m c k _ h]

/-- The first codebook's sum is zero before its last chunk. -/
theorem dif_zero (h : 3 < cfg0.N) : dif m c 3 h = k0_pay11 (F := Ideal) := by
  rw [dif_same m c 2 h (by omega) (by omega), dif_same m c 1 _ (by omega) (by omega), dif_same m c 0 _ (by omega) (by omega)]
  exact dif_A m c ⟨0, pt_lt 0 0⟩ (by decide) (by decide) (by decide) (by decide) (by decide)

/-- The sum held before a later codebook's last chunk is the one the codebook before it left. -/
theorem dif_back (k : ℕ) (hk : k + 1 < 8) (h : (k + 1) * 5 + 3 < cfg0.N) (h' : k * 5 + 4 < cfg0.N) :
    dif m c ((k + 1) * 5 + 3) h = dif m c (k * 5 + 4) h' := by
  have e : (k + 1) * 5 = k * 5 + 4 + 1 := by omega
  generalize hb : (k + 1) * 5 = b at *
  rw [dif_same m c (b + 2) h (by omega) (by omega), dif_same m c (b + 1) _ (by omega) (by omega), dif_same m c b _ (by omega) (by omega)]
  subst e
  exact dif_same m c (k * 5 + 4) _ (by omega) (by omega)

/-- The sum held after codebook `k`'s last chunk is that of the gains so far. -/
theorem dif_sum : ∀ (k : ℕ) (hk : k < 8) (h : k * 5 + 4 < cfg0.N), dif m c (k * 5 + 4) h (ix2 0 0) = ∑ q : Fin (k + 1), gain m c ⟨q.val, by omega⟩ := by
  intro k
  induction k with
  | zero =>
    intro hk h
    refine (dif_gain m c 0 h (pt_lt 0 3)).trans ?_
    rw [show dif m c ((0 : Fin 8).val * 5 + 3) (pt_lt 0 3) = _ from dif_zero m c (pt_lt 0 3), pay11_at, zero_add, Fin.sum_univ_one]
    rfl
  | succ k ih =>
    intro hk h
    rw [dif_gain m c ⟨k + 1, hk⟩ h (Nat.lt_of_succ_lt h), Fin.sum_univ_castSucc,
      show dif m c ((⟨k + 1, hk⟩ : Fin 8).val * 5 + 3) _ = _ from dif_back m c k hk (Nat.lt_of_succ_lt h) (pt_lt ⟨k, by omega⟩ 4), ih (by omega)]
    rfl

/-- The sum of least distances that the kernel ends with. -/
def total : FVec Ideal S1x1 .f32 := fun _ => ∑ k : Fin 8, gain m c k

/-- After the last point, the sum held is that of all the gains. -/
theorem dif_total (k n : ℕ) (hk : k = 7) (e : n = k * 5 + 4) (hn : n < cfg0.N) : dif m c n hn (ix2 0 0) = ∑ k : Fin 8, gain m c k := by
  subst e
  rw [dif_sum m c k (by omega) hn]
  subst hk
  rfl

/-- The kernel ends with `total`. -/
theorem dif_last (t : Fin cfg0.N) (h : t.val % 40 = 39) : dif m c t.val t.isLt = total m c := by
  have hN := lt_of_lt_of_eq t.isLt N_0
  funext j
  obtain rfl : j = ix2 0 0 := by rw [eq_ix2 j]; exact congrArg₂ ix2 (Subsingleton.elim _ _) (Subsingleton.elim _ _)
  exact dif_total m c 7 t.val rfl (by omega) t.isLt

end Cert.KernelIdeal.Hand

end
-- ==== Proof.RefRun.lean ====
/-
  The run of the reference program: its 108 host operations, cut into eight lines at the values that are read
  more than once, and what each result buffer holds when they have run.  Each line's result is a named function
  (`zVal`, `distVal`, …) of the buffers that the line reads, so that no value is written out twice.
-/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the map of `x` to the 8 codebooks' inputs, in order. -/
abbrev opsZ : List (HloOp τ sig (Elt F)) :=
  [ unary main_arg1 main_v0 ((transpose S512x512 [1, 0] · transposes_S512x512_S512x512_1_0) : (⟨S512x512, .f32⟩ : BufTy).Contents (Elt F) → (⟨S512x512, .f32⟩ : BufTy).Contents (Elt F)),
    binary main_arg0 main_v0 main_v1 ((fun l r => Host.dotGeneral dot_S1x512_S512x512_S1x512_1_0_0_1_n_n none l r) : (⟨S1x512, .f32⟩ : BufTy).Contents (Elt F) → (⟨S512x512, .f32⟩ : BufTy).Contents (Elt F) → (⟨S1x512, .f32⟩ : BufTy).Contents (Elt F)),
    unary main_arg2 main_v2 (broadcastInDim S1x512 ![1] bcast_S512_S1x512_1 : (⟨S512, .f32⟩ : BufTy).Contents (Elt F) → (⟨S1x512, .f32⟩ : BufTy).Contents (Elt F)),
    binary main_v1 main_v2 main_v3 (addf : (⟨S1x512, .f32⟩ : BufTy).Contents (Elt F) → (⟨S1x512, .f32⟩ : BufTy).Contents (Elt F) → (⟨S1x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x512, .f32⟩) main_call0_v0) (broadcastInDim S1x512 ![] bcast_S_S1x512),
    TRef.binary (TRef.of (T := ⟨S1x512, .f32⟩) main_v3) (TRef.of (T := ⟨S1x512, .f32⟩) main_call0_v0) (TRef.of (T := ⟨S1x512, .f32⟩) main_v4) maximumf,
    unary main_arg7 main_v5 ((transpose S512x65920 [1, 0] · transposes_S65920x512_S512x65920_1_0) : (⟨S65920x512, .f32⟩ : BufTy).Contents (Elt F) → (⟨S512x65920, .f32⟩ : BufTy).Contents (Elt F)),
    binary main_v4 main_v5 main_v6 ((fun l r => Host.dotGeneral dot_S1x512_S512x65920_S1x65920_1_0_0_1_n_n none l r) : (⟨S1x512, .f32⟩ : BufTy).Contents (Elt F) → (⟨S512x65920, .f32⟩ : BufTy).Contents (Elt F) → (⟨S1x65920, .f32⟩ : BufTy).Contents (Elt F)),
    unary main_arg8 main_v7 (broadcastInDim S1x65920 ![1] bcast_S65920_S1x65920_1 : (⟨S65920, .f32⟩ : BufTy).Contents (Elt F) → (⟨S1x65920, .f32⟩ : BufTy).Contents (Elt F)),
    binary main_v6 main_v7 main_v8 (addf : (⟨S1x65920, .f32⟩ : BufTy).Contents (Elt F) → (⟨S1x65920, .f32⟩ : BufTy).Contents (Elt F) → (⟨S1x65920, .f32⟩ : BufTy).Contents (Elt F)),
    reshape main_v8 main_v9 (rfl : (.f32 : EltTy) = .f32) shapeCasts_S1x65920_S8x8240 ]

/-- The buffers that `opsZ` writes. -/
abbrev refsZ : List (Ref sig .tc) :=
  [main_v0, main_v1, main_v2, main_v3, main_call0_cst, main_call0_v0, main_v4, main_v5, main_v6, main_v7, main_v8, main_v9]

theorem opsZ_writes : (opsZ : List (HloOp τ sig (Elt F))).Forall fun op => op.writes ⊆ (refsZ.map (Proc.devRef (τ := τ) .tc)).toFinset :=
  forall_writes_sub_of_map rfl

theorem opsZ_sub : (opsZ : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., binary_bufs_sub .., unary_bufs_sub .., binary_bufs_sub .., reshape_bufs_sub ..⟩

/-- The operations of the distances to the code words, in order. -/
abbrev opsD : List (HloOp τ sig (Elt F)) :=
  [ binary main_v9 main_v9 main_v10 (mulf : (⟨S8x8240, .f32⟩ : BufTy).Contents (Elt F) → (⟨S8x8240, .f32⟩ : BufTy).Contents (Elt F) → (⟨S8x8240, .f32⟩ : BufTy).Contents (Elt F)),
    nullary main_cst (constant S_ .f32 0x00000000#32),
    binary main_v10 main_cst main_v11 ((fun x v => Host.reduceAdd x v reducesTo_S8x8240_S8_d1 h_S_) : (⟨S8x8240, .f32⟩ : BufTy).Contents (Elt F) → (⟨S_, .f32⟩ : BufTy).Contents (Elt F) → (⟨S8, .f32⟩ : BufTy).Contents (Elt F)),
    unary main_v11 main_v12 (broadcastInDim S8x1 ![0] bcast_S8_S8x1_0 : (⟨S8, .f32⟩ : BufTy).Contents (Elt F) → (⟨S8x1, .f32⟩ : BufTy).Contents (Elt F)),
    binary main_v9 main_arg13 main_v13 ((fun l r => Host.dotGeneral dot_S8x8240_S8x8240x1024_S8x1024_1_1_n_2_0_0 none l r) : (⟨S8x8240, .f32⟩ : BufTy).Contents (Elt F) → (⟨S8x8240x1024, .f32⟩ : BufTy).Contents (Elt F) → (⟨S8x1024, .f32⟩ : BufTy).Contents (Elt F)),
    nullary main_cst_0 (constant S_ .f32 0x40000000#32),
    unary main_cst_0 main_v14 (broadcastInDim S8x1024 ![] bcast_S_S8x1024 : (⟨S_, .f32⟩ : BufTy).Contents (Elt F) → (⟨S8x1024, .f32⟩ : BufTy).Contents (Elt F)),
    binary main_v14 main_v13 main_v15 (mulf : (⟨S8x1024, .f32⟩ : BufTy).Contents (Elt F) → (⟨S8x1024, .f32⟩ : BufTy).Contents (Elt F) → (⟨S8x1024, .f32⟩ : BufTy).Contents (Elt F)),
    unary main_v12 main_v16 (broadcastInDim S8x1024 ![0, 1] bcast_S8x1_S8x1024_0_1 : (⟨S8x1, .f32⟩ : BufTy).Contents (Elt F) → (⟨S8x1024, .f32⟩ : BufTy).Contents (Elt F)),
    binary main_v16 main_v15 main_v17 (subf : (⟨S8x1024, .f32⟩ : BufTy).Contents (Elt F) → (⟨S8x1024, .f32⟩ : BufTy).Contents (Elt F) → (⟨S8x1024, .f32⟩ : BufTy).Contents (Elt F)),
    binary main_arg13 main_arg13 main_v18 (mulf : (⟨S8x8240x1024, .f32⟩ : BufTy).Contents (Elt F) → (⟨S8x8240x1024, .f32⟩ : BufTy).Contents (Elt F) → (⟨S8x8240x1024, .f32⟩ : BufTy).Contents (Elt F)),
    nullary main_cst_1 (constant S_ .f32 0x00000000#32),
    binary main_v18 main_cst_1 main_v19 ((fun x v => Host.reduceAdd x v reducesTo_S8x8240x1024_S8x1024_d1 h_S_) : (⟨S8x8240x1024, .f32⟩ : BufTy).Contents (Elt F) → (⟨S_, .f32⟩ : BufTy).Contents (Elt F) → (⟨S8x1024, .f32⟩ : BufTy).Contents (Elt F)),
    binary main_v17 main_v19 main_v20 (addf : (⟨S8x1024, .f32⟩ : BufTy).Contents (Elt F) → (⟨S8x1024, .f32⟩ : BufTy).Contents (Elt F) → (⟨S8x1024, .f32⟩ : BufTy).Contents (Elt F)) ]

/-- The buffers that `opsD` writes. -/
abbrev refsD : List (Ref sig .tc) :=
  [main_v10, main_cst, main_v11, main_v12, main_v13, main_cst_0, main_v14, main_v15, main_v16, main_v17, main_v18, main_cst_1, main_v19, main_v20]

theorem opsD_writes : (opsD : List (HloOp τ sig (Elt F))).Forall fun op => op.writes ⊆ (refsD.map (Proc.devRef (τ := τ) .tc)).toFinset :=
  forall_writes_sub_of_map rfl

theorem opsD_sub : (opsD : List (HloOp τ sig (Elt F))).Forall fun op => op.bufs ⊆ tcRefs τ sig :=
  ⟨binary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., binary_bufs_sub ..⟩

/-- The operations of the nearest code word of each codebook, in order. -/
abbrev opsK : List (HloOp τ sig (Elt F)) :=
  [ unary main_v20 main_v21 (Host.negf : (⟨S8x1024, .f32⟩ : BufTy).Contents (Elt F) → (⟨S8x1024, .f32⟩ : BufTy).Contents (Elt F)),
    TRef.nullary (TRef.of (T := ⟨S8x1024, .i32⟩) main_call1_v0) (iotaInDim S8x1024 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S8x1024, .f32⟩) main_v21) (TRef.of (T := ⟨S8x1024, .i32⟩) main_call1_v0) (TRef.of (T := ⟨S_, .f32⟩) main_call1_cst) (TRef.of (T := ⟨S_, .i32⟩) main_call1_c) (TRef.of (T := ⟨S8, .f32⟩) main_call1_v1_0) (fun x y u v j => (Host.argReduce reducer_argmax_f32_i32 x y u v reducesTo_S8x1024_S8_d1 h_S_ j).1),
    TRef.quaternary (TRef.of (T := ⟨S8x1024, .f32⟩) main_v21) (TRef.of (T := ⟨S8x1024, .i32⟩) main_call1_v0) (TRef.of (T := ⟨S_, .f32⟩) main_call1_cst) (TRef.of (T := ⟨S_, .i32⟩) main_call1_c) (TRef.of (T := ⟨S8, .i32⟩) main_v22) (fun x y u v j => (Host.argReduce reducer_argmax_f32_i32 x y u v reducesTo_S8x1024_S8_d1 h_S_ j).2) ]

/-- The buffers that `opsK` writes. -/
abbrev refsK : List (Ref sig .tc) :=
  [main_v21, main_call1_v0, main_call1_cst, main_call1_c, main_call1_v1_0, main_v22]

theorem opsK_writes : (opsK : List (HloOp τ sig (Elt F))).Forall fun op => op.writes ⊆ (refsK.map (Proc.devRef (τ := τ) .tc)).toFinset :=
  forall_writes_sub_of_map rfl

theorem opsK_sub : (opsK : List (HloOp τ sig (Elt F))).Forall fun op => op.bufs ⊆ tcRefs τ sig :=
  ⟨unary_bufs_sub .., nullary_bufs_sub .., nullary_bufs_sub .., nullary_bufs_sub .., quaternary_bufs_sub .., quaternary_bufs_sub ..⟩

/-- The operations of the one-hot rows, in order. -/
abbrev opsH : List (HloOp τ sig (Elt F)) :=
  [ TRef.unary (TRef.of (T := ⟨S8, .i32⟩) main_v22) (TRef.of (T := ⟨S8x1, .i32⟩) main_call2_v0) (broadcastInDim S8x1 ![0] bcast_S8_S8x1_0),
    TRef.nullary (TRef.of (T := ⟨S1x1024, .i32⟩) main_call2_v1) (iotaInDim S1x1024 32 1),
    TRef.unary (TRef.of (T := ⟨S8x1, .i32⟩) main_call2_v0) (TRef.of (T := ⟨S8x1024, .i32⟩) main_call2_v2) (broadcastInDim S8x1024 ![0, 1] bcast_S8x1_S8x1024_0_1),
    TRef.unary (TRef.of (T := ⟨S1x1024, .i32⟩) main_call2_v1) (TRef.of (T := ⟨S8x1024, .i32⟩) main_call2_v3) (broadcastInDim S8x1024 ![0, 1] bcast_S1x1024_S8x1024_0_1),
    TRef.binary (TRef.of (T := ⟨S8x1024, .i32⟩) main_call2_v2) (TRef.of (T := ⟨S8x1024, .i32⟩) main_call2_v3) (TRef.of (T := ⟨S8x1024, .i1⟩) main_call2_v4) (cmpi .eq),
    TRef.unary (TRef.of (T := ⟨S8x1024, .i1⟩) main_call2_v4) (TRef.of (T := ⟨S8x1024, .f32⟩) main_v23) (uitofp .f32) ]

/-- The buffers that `opsH` writes. -/
abbrev refsH : List (Ref sig .tc) :=
  [main_call2_v0, main_call2_v1, main_call2_v2, main_call2_v3, main_call2_v4, main_v23]

theorem opsH_writes : (opsH : List (HloOp τ sig (Elt F))).Forall fun op => op.writes ⊆ (refsH.map (Proc.devRef (τ := τ) .tc)).toFinset :=
  forall_writes_sub_of_map rfl

theorem opsH_sub : (opsH : List (HloOp τ sig (Elt F))).Forall fun op => op.bufs ⊆ tcRefs τ sig :=
  ⟨unary_bufs_sub .., nullary_bufs_sub .., unary_bufs_sub .., unary_bufs_sub .., binary_bufs_sub .., unary_bufs_sub ..⟩

/-- The operations of the nearest code words entries, in order. -/
abbrev opsT : List (HloOp τ sig (Elt F)) :=
  [ unary main_v22 main_v24 (broadcastInDim S8x1x1 ![0] bcast_S8_S8x1x1_0 : (⟨S8, .i32⟩ : BufTy).Contents (Elt F) → (⟨S8x1x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8x1x1, .i32⟩) main_call3_v0) (broadcastInDim S8x1x1 ![] bcast_S_S8x1x1),
    TRef.binary (TRef.of (T := ⟨S8x1x1, .i32⟩) main_v24) (TRef.of (T := ⟨S8x1x1, .i32⟩) main_call3_v0) (TRef.of (T := ⟨S8x1x1, .i1⟩) main_call3_v1) (cmpi .slt),
    TRef.nullary (TRef.of (T := ⟨S_, .i32⟩) main_call3_c_0) (constantI S_ 32 1024#32),
    TRef.unary (TRef.of (T := ⟨S_, .i32⟩) main_call3_c_0) (TRef.of (T := ⟨S8x1x1, .i32⟩) main_call3_v2) (broadcastInDim S8x1x1 ![] bcast_S_S8x1x1),
    TRef.binary (TRef.of (T := ⟨S8x1x1, .i32⟩) main_v24) (TRef.of (T := ⟨S8x1x1, .i32⟩) main_call3_v2) (TRef.of (T := ⟨S8x1x1, .i32⟩) main_call3_v3) addi,
    TRef.ternary (TRef.of (T := ⟨S8x1x1, .i1⟩) main_call3_v1) (TRef.of (T := ⟨S8x1x1, .i32⟩) main_call3_v3) (TRef.of (T := ⟨S8x1x1, .i32⟩) main_v24) (TRef.of (T := ⟨S8x1x1, .i32⟩) main_call3_v4) select,
    TRef.nullary (TRef.of (T := ⟨S1, .i32⟩) main_call3_c_1) (constantI S1 32 1023#32),
    TRef.nullary (TRef.of (T := ⟨S_, .i32⟩) main_call3_c_2) (constantI S_ 32 0#32),
    TRef.unary (TRef.of (T := ⟨S_, .i32⟩) main_call3_c_2) (TRef.of (T := ⟨S8x1x1, .i32⟩) main_call3_v5) (broadcastInDim S8x1x1 ![] bcast_S_S8x1x1),
    TRef.binary (TRef.of (T := ⟨S8x1x1, .i32⟩) main_call3_v4) (TRef.of (T := ⟨S8x1x1, .i32⟩) main_call3_v5) (TRef.of (T := ⟨S8x1x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S8x1x1, .i32⟩) main_call3_v8) (broadcastInDim S8x1x1 ![0, 1, 2] bcast_S1x1x1_S8x1x1_0_1_2),
    TRef.binary (TRef.of (T := ⟨S8x1x1, .i32⟩) main_call3_v4) (TRef.of (T := ⟨S8x1x1, .i32⟩) main_call3_v8) (TRef.of (T := ⟨S8x1x1, .i1⟩) main_call3_v9) (cmpi .sle),
    TRef.binary (TRef.of (T := ⟨S8x1x1, .i1⟩) main_call3_v6) (TRef.of (T := ⟨S8x1x1, .i1⟩) main_call3_v9) (TRef.of (T := ⟨S8x1x1, .i1⟩) main_call3_v10) andi,
    TRef.nullary (TRef.of (T := ⟨S_, .i1⟩) main_call3_c_3) (constantI S_ 1 1#1),
    TRef.binary (TRef.of (T := ⟨S8x1x1, .i1⟩) main_call3_v10) (TRef.of (T := ⟨S_, .i1⟩) main_call3_c_3) (TRef.of (T := ⟨S8x1, .i1⟩) main_call3_v11) (fun x v => Host.reduce IntOp.andi x v reducesTo_S8x1x1_S8x1_d2 h_S_),
    TRef.binary (TRef.of (T := ⟨S8x8240x1024, .f32⟩) main_arg13) (TRef.of (T := ⟨S8x1x1, .i32⟩) main_call3_v4) (TRef.of (T := ⟨S8x8240x1, .f32⟩) main_call3_v12) (fun x i => Host.gather gather_S8x8240x1024_S8x1x1_S8x8240x1_1_2_0_0_2_2_182401 x i),
    TRef.unary (TRef.of (T := ⟨S8x1, .i1⟩) main_call3_v11) (TRef.of (T := ⟨S8x8240x1, .i1⟩) main_call3_v13) (broadcastInDim S8x8240x1 ![0, 2] bcast_S8x1_S8x8240x1_0_2),
    TRef.nullary (TRef.of (T := ⟨S_, .f32⟩) main_call3_cst) (constant S_ .f32 0x7FC00000#32),
    TRef.unary (TRef.of (T := ⟨S_, .f32⟩) main_call3_cst) (TRef.of (T := ⟨S8x8240x1, .f32⟩) main_call3_v14) (broadcastInDim S8x8240x1 ![] bcast_S_S8x8240x1),
    TRef.ternary (TRef.of (T := ⟨S8x8240x1, .i1⟩) main_call3_v13) (TRef.of (T := ⟨S8x8240x1, .f32⟩) main_call3_v12) (TRef.of (T := ⟨S8x8240x1, .f32⟩) main_call3_v14) (TRef.of (T := ⟨S8x8240x1, .f32⟩) main_v25) select,
    reshape main_v25 main_v26 (rfl : (.f32 : EltTy) = .f32) shapeCasts_S8x8240x1_S8x8240 ]

/-- The buffers that `opsT` writes. -/
abbrev refsT : List (Ref sig .tc) :=
  [main_v24, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v25, main_v26]

theorem opsT_writes : (opsT : List (HloOp τ sig (Elt F))).Forall fun op => op.writes ⊆ (refsT.map (Proc.devRef (τ := τ) .tc)).toFinset :=
  forall_writes_sub_of_map rfl

theorem opsT_sub : (opsT : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

/-- The operations of the loss, in order. -/
abbrev opsL : List (HloOp τ sig (Elt F)) :=
  [ binary main_v26 main_v9 main_v27 (subf : (⟨S8x8240, .f32⟩ : BufTy).Contents (Elt F) → (⟨S8x8240, .f32⟩ : BufTy).Contents (Elt F) → (⟨S8x8240, .f32⟩ : BufTy).Contents (Elt F)),
    binary main_v27 main_v27 main_v28 (mulf : (⟨S8x8240, .f32⟩ : BufTy).Contents (Elt F) → (⟨S8x8240, .f32⟩ : BufTy).Contents (Elt F) → (⟨S8x8240, .f32⟩ : BufTy).Contents (Elt F)),
    nullary main_cst_2 (constant S_ .f32 0x00000000#32),
    binary main_v28 main_cst_2 main_v29 ((fun x v => Host.reduceAdd x v reducesTo_S8x8240_S8_d1 h_S_) : (⟨S8x8240, .f32⟩ : BufTy).Contents (Elt F) → (⟨S_, .f32⟩ : BufTy).Contents (Elt F) → (⟨S8, .f32⟩ : BufTy).Contents (Elt F)),
    nullary main_cst_3 (constant S_ .f32 0x4600C000#32),
    unary main_cst_3 main_v30 (broadcastInDim S8 ![] bcast_S_S8 : (⟨S_, .f32⟩ : BufTy).Contents (Elt F) → (⟨S8, .f32⟩ : BufTy).Contents (Elt F)),
    binary main_v29 main_v30 main_v31 (Host.divf : (⟨S8, .f32⟩ : BufTy).Contents (Elt F) → (⟨S8, .f32⟩ : BufTy).Contents (Elt F) → (⟨S8, .f32⟩ : BufTy).Contents (Elt F)),
    nullary main_cst_4 (constant S_ .f32 0x00000000#32),
    binary main_v31 main_cst_4 main_v32 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ]

/-- The buffers that `opsL` writes. -/
abbrev refsL : List (Ref sig .tc) :=
  [main_v27, main_v28, main_cst_2, main_v29, main_cst_3, main_v30, main_v31, main_cst_4, main_v32]

theorem opsL_writes : (opsL : List (HloOp τ sig (Elt F))).Forall fun op => op.writes ⊆ (refsL.map (Proc.devRef (τ := τ) .tc)).toFinset :=
  forall_writes_sub_of_map rfl

theorem opsL_sub : (opsL : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., nullary_bufs_sub .., binary_bufs_sub ..⟩

/-- The operations of the perplexity, in order. -/
abbrev opsP : List (HloOp τ sig (Elt F)) :=
  [ reshape main_v23 main_v33 (rfl : (.f32 : EltTy) = .f32) shapeCasts_S8x1024_S1x8192,
    nullary main_cst_5 (constant S_ .f32 0x00000000#32),
    binary main_v33 main_cst_5 main_v34 ((fun x v => Host.reduceAdd x v reducesTo_S1x8192_S8192_d0 h_S_) : (⟨S1x8192, .f32⟩ : BufTy).Contents (Elt F) → (⟨S_, .f32⟩ : BufTy).Contents (Elt F) → (⟨S8192, .f32⟩ : BufTy).Contents (Elt F)),
    nullary main_cst_6 (constant S_ .f32 0x3F800000#32),
    unary main_cst_6 main_v35 (broadcastInDim S8192 ![] bcast_S_S8192 : (⟨S_, .f32⟩ : BufTy).Contents (Elt F) → (⟨S8192, .f32⟩ : BufTy).Contents (Elt F)),
    binary main_v34 main_v35 main_v36 (Host.divf : (⟨S8192, .f32⟩ : BufTy).Contents (Elt F) → (⟨S8192, .f32⟩ : BufTy).Contents (Elt F) → (⟨S8192, .f32⟩ : BufTy).Contents (Elt F)),
    nullary main_cst_7 (constant S_ .f32 0x2EDBE6FF#32),
    unary main_cst_7 main_v37 (broadcastInDim S8192 ![] bcast_S_S8192 : (⟨S_, .f32⟩ : BufTy).Contents (Elt F) → (⟨S8192, .f32⟩ : BufTy).Contents (Elt F)),
    binary main_v36 main_v37 main_v38 (addf : (⟨S8192, .f32⟩ : BufTy).Contents (Elt F) → (⟨S8192, .f32⟩ : BufTy).Contents (Elt F) → (⟨S8192, .f32⟩ : BufTy).Contents (Elt F)),
    unary main_v38 main_v39 (Host.log : (⟨S8192, .f32⟩ : BufTy).Contents (Elt F) → (⟨S8192, .f32⟩ : BufTy).Contents (Elt F)),
    binary main_v36 main_v39 main_v40 (mulf : (⟨S8192, .f32⟩ : BufTy).Contents (Elt F) → (⟨S8192, .f32⟩ : BufTy).Contents (Elt F) → (⟨S8192, .f32⟩ : BufTy).Contents (Elt F)),
    nullary main_cst_8 (constant S_ .f32 0x00000000#32),
    binary main_v40 main_cst_8 main_v41 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v41 main_v42 (Host.negf : (⟨S_, .f32⟩ : BufTy).Contents (Elt F) → (⟨S_, .f32⟩ : BufTy).Contents (Elt F)),
    unary main_v42 main_v43 (Host.exp : (⟨S_, .f32⟩ : BufTy).Contents (Elt F) → (⟨S_, .f32⟩ : BufTy).Contents (Elt F)) ]

/-- The buffers that `opsP` writes. -/
abbrev refsP : List (Ref sig .tc) :=
  [main_v33, main_cst_5, main_v34, main_cst_6, main_v35, main_v36, main_cst_7, main_v37, main_v38, main_v39, main_v40, main_cst_8, main_v41, main_v42, main_v43]

theorem opsP_writes : (opsP : List (HloOp τ sig (Elt F))).Forall fun op => op.writes ⊆ (refsP.map (Proc.devRef (τ := τ) .tc)).toFinset :=
  forall_writes_sub_of_map rfl

theorem opsP_sub : (opsP : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

/-- The operations of the decoder, in order. -/
abbrev opsX : List (HloOp τ sig (Elt F)) :=
  [ unary main_arg3 main_v44 ((transpose S512x512 [1, 0] · transposes_S512x512_S512x512_1_0) : (⟨S512x512, .f32⟩ : BufTy).Contents (Elt F) → (⟨S512x512, .f32⟩ : BufTy).Contents (Elt F)),
    binary main_arg0 main_v44 main_v45 ((fun l r => Host.dotGeneral dot_S1x512_S512x512_S1x512_1_0_0_1_n_n none l r) : (⟨S1x512, .f32⟩ : BufTy).Contents (Elt F) → (⟨S512x512, .f32⟩ : BufTy).Contents (Elt F) → (⟨S1x512, .f32⟩ : BufTy).Contents (Elt F)),
    unary main_arg4 main_v46 (broadcastInDim S1x512 ![1] bcast_S512_S1x512_1 : (⟨S512, .f32⟩ : BufTy).Contents (Elt F) → (⟨S1x512, .f32⟩ : BufTy).Contents (Elt F)),
    binary main_v45 main_v46 main_v47 (addf : (⟨S1x512, .f32⟩ : BufTy).Contents (Elt F) → (⟨S1x512, .f32⟩ : BufTy).Contents (Elt F) → (⟨S1x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1x512, .f32⟩) main_call4_v0) (broadcastInDim S1x512 ![] bcast_S_S1x512),
    TRef.binary (TRef.of (T := ⟨S1x512, .f32⟩) main_v47) (TRef.of (T := ⟨S1x512, .f32⟩) main_call4_v0) (TRef.of (T := ⟨S1x512, .f32⟩) main_v48) maximumf,
    unary main_arg5 main_v49 ((transpose S512x128 [1, 0] · transposes_S128x512_S512x128_1_0) : (⟨S128x512, .f32⟩ : BufTy).Contents (Elt F) → (⟨S512x128, .f32⟩ : BufTy).Contents (Elt F)),
    binary main_v48 main_v49 main_v50 ((fun l r => Host.dotGeneral dot_S1x512_S512x128_S1x128_1_0_0_1_n_n none l r) : (⟨S1x512, .f32⟩ : BufTy).Contents (Elt F) → (⟨S512x128, .f32⟩ : BufTy).Contents (Elt F) → (⟨S1x128, .f32⟩ : BufTy).Contents (Elt F)),
    unary main_arg6 main_v51 (broadcastInDim S1x128 ![1] bcast_S128_S1x128_1 : (⟨S128, .f32⟩ : BufTy).Contents (Elt F) → (⟨S1x128, .f32⟩ : BufTy).Contents (Elt F)),
    binary main_v50 main_v51 main_v52 (addf : (⟨S1x128, .f32⟩ : BufTy).Contents (Elt F) → (⟨S1x128, .f32⟩ : BufTy).Contents (Elt F) → (⟨S1x128, .f32⟩ : BufTy).Contents (Elt F)),
    unary main_arg9 main_v53 ((transpose S128x256 [1, 0] · transposes_S256x128_S128x256_1_0) : (⟨S256x128, .f32⟩ : BufTy).Contents (Elt F) → (⟨S128x256, .f32⟩ : BufTy).Contents (Elt F)),
    binary main_v52 main_v53 main_v54 ((fun l r => Host.dotGeneral dot_S1x128_S128x256_S1x256_1_0_0_1_n_n none l r) : (⟨S1x128, .f32⟩ : BufTy).Contents (Elt F) → (⟨S128x256, .f32⟩ : BufTy).Contents (Elt F) → (⟨S1x256, .f32⟩ : BufTy).Contents (Elt F)),
    unary main_arg10 main_v55 (broadcastInDim S1x256 ![1] bcast_S256_S1x256_1 : (⟨S256, .f32⟩ : BufTy).Contents (Elt F) → (⟨S1x256, .f32⟩ : BufTy).Contents (Elt F)),
    binary main_v54 main_v55 main_v56 (addf : (⟨S1x256, .f32⟩ : BufTy).Contents (Elt F) → (⟨S1x256, .f32⟩ : BufTy).Contents (Elt F) → (⟨S1x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1x256, .f32⟩) main_call5_v0) (broadcastInDim S1x256 ![] bcast_S_S1x256),
    TRef.binary (TRef.of (T := ⟨S1x256, .f32⟩) main_v56) (TRef.of (T := ⟨S1x256, .f32⟩) main_call5_v0) (TRef.of (T := ⟨S1x256, .f32⟩) main_v57) maximumf,
    unary main_arg11 main_v58 ((transpose S256x128 [1, 0] · transposes_S128x256_S256x128_1_0) : (⟨S128x256, .f32⟩ : BufTy).Contents (Elt F) → (⟨S256x128, .f32⟩ : BufTy).Contents (Elt F)),
    binary main_v57 main_v58 main_v59 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    unary main_arg12 main_v60 (broadcastInDim S1x128 ![1] bcast_S128_S1x128_1 : (⟨S128, .f32⟩ : BufTy).Contents (Elt F) → (⟨S1x128, .f32⟩ : BufTy).Contents (Elt F)),
    binary main_v59 main_v60 main_v61 (addf : (⟨S1x128, .f32⟩ : BufTy).Contents (Elt F) → (⟨S1x128, .f32⟩ : BufTy).Contents (Elt F) → (⟨S1x128, .f32⟩ : BufTy).Contents (Elt F)) ]

/-- The buffers that `opsX` writes. -/
abbrev refsX : List (Ref sig .tc) :=
  [main_v44, main_v45, main_v46, main_v47, main_call4_cst, main_call4_v0, main_v48, main_v49, main_v50, main_v51, main_v52, main_v53, main_v54, main_v55, main_v56, main_call5_cst, main_call5_v0, main_v57, main_v58, main_v59, main_v60, main_v61]

theorem opsX_writes : (opsX : List (HloOp τ sig (Elt F))).Forall fun op => op.writes ⊆ (refsX.map (Proc.devRef (τ := τ) .tc)).toFinset :=
  forall_writes_sub_of_map rfl

theorem opsX_sub : (opsX : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub ..⟩

/-! ## What each line computes -/

/-- `relu (x · Wfᵀ + bf) · Wcᵀ + bc`, cut into the 8 codebooks' inputs. -/
def zVal (x : FVec F S1x512 .f32) (wf : FVec F S512x512 .f32) (bf : FVec F S512 .f32) (wc : FVec F S65920x512 .f32)
    (bc : FVec F S65920 .f32) : FVec F S8x8240 .f32 :=
  shapeCast S8x8240 (addf (Host.dotGeneral dot_S1x512_S512x65920_S1x65920_1_0_0_1_n_n none
      (maximumf (addf (Host.dotGeneral dot_S1x512_S512x512_S1x512_1_0_0_1_n_n none x
          (transpose S512x512 [1, 0] wf transposes_S512x512_S512x512_1_0)) (broadcastInDim S1x512 ![1] bcast_S512_S1x512_1 bf))
        (broadcastInDim S1x512 ![] bcast_S_S1x512 (constant S_ .f32 0x00000000#32)))
      (transpose S512x65920 [1, 0] wc transposes_S65920x512_S512x65920_1_0))
    (broadcastInDim S1x65920 ![1] bcast_S65920_S1x65920_1 bc)) shapeCasts_S1x65920_S8x8240

/-- The squared distance of each codebook's input to each of its code words, expanded. -/
def distVal (z : FVec F S8x8240 .f32) (e : FVec F S8x8240x1024 .f32) : FVec F S8x1024 .f32 :=
  addf (subf (broadcastInDim S8x1024 ![0, 1] bcast_S8x1_S8x1024_0_1 (broadcastInDim S8x1 ![0] bcast_S8_S8x1_0
        (Host.reduceAdd (mulf z z) (constant S_ .f32 0x00000000#32) reducesTo_S8x8240_S8_d1 h_S_)))
      (mulf (broadcastInDim S8x1024 ![] bcast_S_S8x1024 (constant S_ .f32 0x40000000#32))
        (Host.dotGeneral dot_S8x8240_S8x8240x1024_S8x1024_1_1_n_2_0_0 none z e)))
    (Host.reduceAdd (mulf e e) (constant S_ .f32 0x00000000#32) reducesTo_S8x8240x1024_S8x1024_d1 h_S_)

/-- The place of the least distance of each codebook. -/
def nearVal (d : FVec F S8x1024 .f32) : IVec S8 32 := fun j =>
  (Host.argReduce reducer_argmax_f32_i32 (Host.negf d) (iotaInDim S8x1024 32 1) (constant S_ .f32 0xFF800000#32) (constantI S_ 32 0#32)
    reducesTo_S8x1024_S8_d1 h_S_ j).2

/-- The one-hot row of each place. -/
def hotVal (k : IVec S8 32) : FVec F S8x1024 .f32 :=
  uitofp .f32 (cmpi .eq (broadcastInDim S8x1024 ![0, 1] bcast_S8x1_S8x1024_0_1 (broadcastInDim S8x1 ![0] bcast_S8_S8x1_0 k))
    (broadcastInDim S8x1024 ![0, 1] bcast_S1x1024_S8x1024_0_1 (iotaInDim S1x1024 32 1)))

/-- The places as start indices: a negative one counts from the end. -/
def startVal (k : IVec S8 32) : IVec S8x1x1 32 :=
  select (cmpi .slt (broadcastInDim S8x1x1 ![0] bcast_S8_S8x1x1_0 k) (broadcastInDim S8x1x1 ![] bcast_S_S8x1x1 (constantI S_ 32 0#32)))
    (addi (broadcastInDim S8x1x1 ![0] bcast_S8_S8x1x1_0 k) (broadcastInDim S8x1x1 ![] bcast_S_S8x1x1 (constantI S_ 32 1024#32)))
    (broadcastInDim S8x1x1 ![0] bcast_S8_S8x1x1_0 k)

/-- Which codebook's start index lies inside the code words. -/
def insideVal (s : IVec S8x1x1 32) : IVec S8x1 1 :=
  Host.reduce IntOp.andi
    (andi (cmpi .sge s (broadcastInDim S8x1x1 ![] bcast_S_S8x1x1 (constantI S_ 32 0#32)))
      (cmpi .sle s (broadcastInDim S8x1x1 ![0, 1, 2] bcast_S1x1x1_S8x1x1_0_1_2
        (broadcastInDim S1x1x1 ![2] bcast_S1_S1x1x1_2 (constantI S1 32 1023#32)))))
    (constantI S_ 1 1#1) reducesTo_S8x1x1_S8x1_d2 h_S_

/-- The code word at each place. -/
def takeVal (k : IVec S8 32) (e : FVec F S8x8240x1024 .f32) : FVec F S8x8240 .f32 :=
  shapeCast S8x8240 (select (broadcastInDim S8x8240x1 ![0, 2] bcast_S8x1_S8x8240x1_0_2 (insideVal (startVal k)))
    (Host.gather gather_S8x8240x1024_S8x1x1_S8x8240x1_1_2_0_0_2_2_182401 e (startVal k))
    (broadcastInDim S8x8240x1 ![] bcast_S_S8x8240x1 (constant S_ .f32 0x7FC00000#32))) shapeCasts_S8x8240x1_S8x8240

/-- The mean square difference of each codebook, summed. -/
def lossVal (q z : FVec F S8x8240 .f32) : FVec F S_ .f32 :=
  Host.reduceAdd (Host.divf (Host.reduceAdd (mulf (subf q z) (subf q z)) (constant S_ .f32 0x00000000#32) reducesTo_S8x8240_S8_d1 h_S_)
      (broadcastInDim S8 ![] bcast_S_S8 (constant S_ .f32 0x4600C000#32)))
    (constant S_ .f32 0x00000000#32) reducesTo_S8_S_d0 h_S_

/-- How often each code word is taken. -/
def probVal (h : FVec F S8x1024 .f32) : FVec F S8192 .f32 :=
  Host.divf (Host.reduceAdd (shapeCast S1x8192 h shapeCasts_S8x1024_S1x8192) (constant S_ .f32 0x00000000#32) reducesTo_S1x8192_S8192_d0 h_S_)
    (broadcastInDim S8192 ![] bcast_S_S8192 (constant S_ .f32 0x3F800000#32))

/-- The perplexity of the one-hot rows. -/
def perpVal (h : FVec F S8x1024 .f32) : FVec F S_ .f32 :=
  Host.exp (Host.negf (Host.reduceAdd (mulf (probVal h)
      (Host.log (addf (probVal h) (broadcastInDim S8192 ![] bcast_S_S8192 (constant S_ .f32 0x2EDBE6FF#32)))))
    (constant S_ .f32 0x00000000#32) reducesTo_S8192_S_d0 h_S_))

/-- The linear map, the decoder and their biases, applied to `x`. -/
def decVal (x : FVec F S1x512 .f32) (w1 : FVec F S512x512 .f32) (b1 : FVec F S512 .f32) (w2 : FVec F S128x512 .f32) (b2 : FVec F S128 .f32)
    (w3 : FVec F S256x128 .f32) (b3 : FVec F S256 .f32) (w4 : FVec F S128x256 .f32) (b4 : FVec F S128 .f32) : FVec F S1x128 .f32 :=
  addf (Host.dotGeneral dot_S1x256_S256x128_S1x128_1_0_0_1_n_n none
      (maximumf (addf (Host.dotGeneral dot_S1x128_S128x256_S1x256_1_0_0_1_n_n none
          (addf (Host.dotGeneral dot_S1x512_S512x128_S1x128_1_0_0_1_n_n none
              (maximumf (addf (Host.dotGeneral dot_S1x512_S512x512_S1x512_1_0_0_1_n_n none x
                  (transpose S512x512 [1, 0] w1 transposes_S512x512_S512x512_1_0)) (broadcastInDim S1x512 ![1] bcast_S512_S1x512_1 b1))
                (broadcastInDim S1x512 ![] bcast_S_S1x512 (constant S_ .f32 0x00000000#32)))
              (transpose S512x128 [1, 0] w2 transposes_S128x512_S512x128_1_0)) (broadcastInDim S1x128 ![1] bcast_S128_S1x128_1 b2))
          (transpose S128x256 [1, 0] w3 transposes_S256x128_S128x256_1_0)) (broadcastInDim S1x256 ![1] bcast_S256_S1x256_1 b3))
        (broadcastInDim S1x256 ![] bcast_S_S1x256 (constant S_ .f32 0x00000000#32)))
      (transpose S256x128 [1, 0] w4 transposes_S128x256_S256x128_1_0))
    (broadcastInDim S1x128 ![1] bcast_S128_S1x128_1 b4)

/-! ## The lines, read back -/

variable (V : Valuation τ sig (Elt F))

set_option maxHeartbeats 4000000

/-- What each line leaves in the buffer that it is named for. -/
theorem afterZ : after opsZ V (Proc.devRef .tc main_v9)
    = zVal (V (Proc.devRef .tc main_arg0)) (V (Proc.devRef .tc main_arg1)) (V (Proc.devRef .tc main_arg2)) (V (Proc.devRef .tc main_arg7)) (V (Proc.devRef .tc main_arg8)) := by
  simp only [opsZ, TRef.binary, TRef.nullary, TRef.unary, TRef.toBuf, TRef.ofBuf, cast_eq]
  after_results_simp <;> rfl

theorem afterD : after opsD V (Proc.devRef .tc main_v20) = distVal (V (Proc.devRef .tc main_v9)) (V (Proc.devRef .tc main_arg13)) := by
  simp only [opsD]
  after_results_simp <;> rfl

theorem afterK : after opsK V (Proc.devRef .tc main_v22) = nearVal (V (Proc.devRef .tc main_v20)) := by
  simp only [opsK, TRef.quaternary, TRef.nullary, TRef.toBuf, TRef.ofBuf, cast_eq]
  after_results_simp <;> rfl

theorem afterH : after opsH V (Proc.devRef .tc main_v23) = hotVal (V (Proc.devRef .tc main_v22)) := by
  simp only [opsH, TRef.binary, TRef.nullary, TRef.unary, TRef.toBuf, TRef.ofBuf, cast_eq]
  after_results_simp <;> rfl

theorem afterT : after opsT V (Proc.devRef .tc main_v26) = takeVal (V (Proc.devRef .tc main_v22)) (V (Proc.devRef .tc main_arg13)) := by
  simp only [opsT, TRef.binary, TRef.nullary, TRef.ternary, TRef.unary, TRef.toBuf, TRef.ofBuf, cast_eq]
  after_results_simp <;> rfl

theorem afterL : after opsL V (Proc.devRef .tc main_v32) = lossVal (V (Proc.devRef .tc main_v26)) (V (Proc.devRef .tc main_v9)) := by
  simp only [opsL]
  after_results_simp <;> rfl

theorem afterP : after opsP V (Proc.devRef .tc main_v43) = perpVal (V (Proc.devRef .tc main_v23)) := by
  simp only [opsP]
  after_results_simp <;> rfl

theorem afterX : after opsX V (Proc.devRef .tc main_v61)
    = decVal (V (Proc.devRef .tc main_arg0)) (V (Proc.devRef .tc main_arg3)) (V (Proc.devRef .tc main_arg4)) (V (Proc.devRef .tc main_arg5)) (V (Proc.devRef .tc main_arg6))
        (V (Proc.devRef .tc main_arg9)) (V (Proc.devRef .tc main_arg10)) (V (Proc.devRef .tc main_arg11)) (V (Proc.devRef .tc main_arg12)) := by
  simp only [opsX, TRef.binary, TRef.nullary, TRef.unary, TRef.toBuf, TRef.ofBuf, cast_eq]
  after_results_simp <;> rfl

/-! ## The whole program -/

/-- The program's operations: the eight lines, in order. -/
abbrev ops : List (HloOp τ sig (Elt F)) := opsZ ++ (opsD ++ (opsK ++ (opsH ++ (opsT ++ (opsL ++ (opsP ++ opsX))))))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.forall_append]
  exact ⟨opsZ_sub, opsD_sub, opsK_sub, opsH_sub, opsT_sub, opsL_sub, opsP_sub, opsX_sub⟩

/-- A buffer that no line writes keeps its contents. -/
theorem after_kept (r : Ref sig .tc) (h : r ∉ refsZ ∧ r ∉ refsD ∧ r ∉ refsK ∧ r ∉ refsH ∧ r ∉ refsT ∧ r ∉ refsL ∧ r ∉ refsP ∧ r ∉ refsX) :
    after ops V (Proc.devRef .tc r) = V (Proc.devRef .tc r) := by
  obtain ⟨hZ, hD, hK, hH, hT, hL, hP, hX⟩ := h
  simp only [after_append]
  rw [after_of_writes_sub _ _ opsX_writes hX, after_of_writes_sub _ _ opsP_writes hP, after_of_writes_sub _ _ opsL_writes hL,
    after_of_writes_sub _ _ opsT_writes hT, after_of_writes_sub _ _ opsH_writes hH, after_of_writes_sub _ _ opsK_writes hK,
    after_of_writes_sub _ _ opsD_writes hD, after_of_writes_sub _ _ opsZ_writes hZ]

/-- Each codebook's input, of the arguments' contents. -/
def zOf : FVec F S8x8240 .f32 :=
  zVal (V (Proc.devRef .tc main_arg0)) (V (Proc.devRef .tc main_arg1)) (V (Proc.devRef .tc main_arg2)) (V (Proc.devRef .tc main_arg7)) (V (Proc.devRef .tc main_arg8))

/-- Each codebook's nearest code word, of the arguments' contents. -/
def nearOf : IVec S8 32 := nearVal (distVal (zOf V) (V (Proc.devRef .tc main_arg13)))

/-- The decoded array after the whole program. -/
theorem after_dec : after ops V (Proc.devRef .tc main_v61)
    = decVal (V (Proc.devRef .tc main_arg0)) (V (Proc.devRef .tc main_arg3)) (V (Proc.devRef .tc main_arg4)) (V (Proc.devRef .tc main_arg5)) (V (Proc.devRef .tc main_arg6))
        (V (Proc.devRef .tc main_arg9)) (V (Proc.devRef .tc main_arg10)) (V (Proc.devRef .tc main_arg11)) (V (Proc.devRef .tc main_arg12)) := by
  have hk : ∀ r : Ref sig .tc, (r ∉ refsZ ∧ r ∉ refsD ∧ r ∉ refsK ∧ r ∉ refsH ∧ r ∉ refsT ∧ r ∉ refsL ∧ r ∉ refsP) →
      after opsP (after opsL (after opsT (after opsH (after opsK (after opsD (after opsZ V)))))) (Proc.devRef .tc r) = V (Proc.devRef .tc r) := by
    rintro r ⟨hZ, hD, hK, hH, hT, hL, hP⟩
    rw [after_of_writes_sub _ _ opsP_writes hP, after_of_writes_sub _ _ opsL_writes hL,
      after_of_writes_sub _ _ opsT_writes hT, after_of_writes_sub _ _ opsH_writes hH, after_of_writes_sub _ _ opsK_writes hK,
      after_of_writes_sub _ _ opsD_writes hD, after_of_writes_sub _ _ opsZ_writes hZ]
  simp only [after_append]
  rw [afterX, hk main_arg0 (by decide), hk main_arg3 (by decide), hk main_arg4 (by decide), hk main_arg5 (by decide), hk main_arg6 (by decide),
    hk main_arg9 (by decide), hk main_arg10 (by decide), hk main_arg11 (by decide), hk main_arg12 (by decide)]

/-- What the first three lines leave: the place of the nearest code word. -/
theorem after_near : after opsK (after opsD (after opsZ V)) (Proc.devRef .tc main_v22) = nearOf V := by
  rw [afterK, afterD, afterZ, after_of_writes_sub (r := main_arg13) _ _ opsZ_writes (by decide)]; rfl

/-- The perplexity after the whole program. -/
theorem after_perp : after ops V (Proc.devRef .tc main_v43) = perpVal (hotVal (nearOf V)) := by
  simp only [after_append]
  rw [after_of_writes_sub _ _ opsX_writes (by decide), afterP, after_of_writes_sub _ _ opsL_writes (by decide),
    after_of_writes_sub _ _ opsT_writes (by decide), afterH, after_near]

/-- The loss after the whole program. -/
theorem after_loss : after ops V (Proc.devRef .tc main_v32)
    = lossVal (takeVal (nearOf V) (V (Proc.devRef .tc main_arg13))) (zOf V) := by
  simp only [after_append]
  rw [after_of_writes_sub _ _ opsX_writes (by decide), after_of_writes_sub _ _ opsP_writes (by decide), afterL, afterT,
    after_of_writes_sub (r := main_v22) _ _ opsH_writes (by decide), after_near,
    after_of_writes_sub (r := main_arg13) _ _ opsH_writes (by decide), after_of_writes_sub (r := main_arg13) _ _ opsK_writes (by decide),
    after_of_writes_sub (r := main_arg13) _ _ opsD_writes (by decide), after_of_writes_sub (r := main_arg13) _ _ opsZ_writes (by decide),
    after_of_writes_sub (r := main_v9) _ _ opsT_writes (by decide), after_of_writes_sub (r := main_v9) _ _ opsH_writes (by decide),
    after_of_writes_sub (r := main_v9) _ _ opsK_writes (by decide), after_of_writes_sub (r := main_v9) _ _ opsD_writes (by decide), afterZ]
  rfl

/-- Every fair execution of the reference ends, each TensorCore buffer at what the operations leave in it. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ

/-- Every fair execution of the reference ends with the decoded array, the loss and the perplexity at their terms of the
    arguments' contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = decVal (launchContents m c (Proc.devRef .tc main_arg0)) (launchContents m c (Proc.devRef .tc main_arg3)) (launchContents m c (Proc.devRef .tc main_arg4)) (launchContents m c (Proc.devRef .tc main_arg5)) (launchContents m c (Proc.devRef .tc main_arg6)) (launchContents m c (Proc.devRef .tc main_arg9)) (launchContents m c (Proc.devRef .tc main_arg10)) (launchContents m c (Proc.devRef .tc main_arg11)) (launchContents m c (Proc.devRef .tc main_arg12))
      ∧ r.2.mem ((c.tc : Thread nD τ).loc main_v32)
          = lossVal (takeVal (nearOf (launchContents m c)) (launchContents m c (Proc.devRef .tc main_arg13))) (zOf (launchContents m c))
      ∧ r.2.mem ((c.tc : Thread nD τ).loc main_v43) = perpVal (hotVal (nearOf (launchContents m c)))
      ∧ ∀ b : Ref sig .tc, (b ∉ refsZ ∧ b ∉ refsD ∧ b ∉ refsK ∧ b ∉ refsH ∧ b ∉ refsT ∧ b ∉ refsL ∧ b ∉ refsP ∧ b ∉ refsX) →
          r.2.mem ((c.tc : Thread nD τ).loc b) = m ((c.tc : Thread nD τ).loc b) :=
  (θ_run defs _ _).mono (fun _ h c => ⟨(h c _).trans (after_dec _), (h c _).trans (after_loss _), (h c _).trans (after_perp _),
    fun b hb => (h c b).trans (after_kept _ b hb)⟩) (run_after m ρ)

end Cert.ReferenceIdeal.Hand

end
-- ==== Proof.RefRead.lean ====
/- The reference's values read at an index: the inputs, the distances, the nearest code words and what is taken at them. -/
module

public import proofs.«01_k».proof.Proof.RefRun
public import proofs.«01_k».proof.Proof.Math
public import Idealize.ShloMosaic.Lib.Pointwise
public import Idealize.ShloMosaic.Lib.Claim

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Cert.Quantise (two rows input expanded square)

/-! ## The values, pointwise -/

/-- The reference's input of a codebook, at a row. -/
theorem zVal_at (x : FVec Ideal S1x512 .f32) (wf : FVec Ideal S512x512 .f32) (bf : FVec Ideal S512 .f32) (wc : FVec Ideal S65920x512 .f32)
    (bc : FVec Ideal S65920 .f32) (k : Fin 8) (d : Fin 8240) :
    zVal x wf bf wc bc (ix2 k d) = input (Quantise.hidden (fun k => x (ix2 0 k)) (fun l k => wf (ix2 l k)) fun l => bf (ix1 l))
      (fun q l => wc (ix2 q l)) (fun q => bc (ix1 q)) k d := by
  unfold input Quantise.hidden
  pointwise! [zVal]

/-- The reference's distance, at a codebook and a code word. -/
theorem distVal_at (z : FVec Ideal S8x8240 .f32) (e : FVec Ideal S8x8240x1024 .f32) (k : Fin 8) (n : Fin 1024) :
    distVal z e (ix2 k n) = expanded (fun d => z (ix2 k d)) fun d => e (ix3 k d n) := by
  unfold expanded two
  pointwise! [distVal]

/-- The reference's loss, of the chosen code words and the inputs. -/
theorem lossVal_at (q z : FVec Ideal S8x8240 .f32) (i : S_.Idx) :
    lossVal q z i = ∑ k : Fin 8, Ideal.div (square (fun d => z (ix2 k d)) fun d => q (ix2 k d)) rows := by
  unfold square rows
  pointwise! [lossVal]

/-- A code word's number, read as a signed integer. -/
theorem word_int (κ : Fin 1024) : (BitVec.ofNat 32 κ.val).toInt = (κ.val : ℤ) := by
  have h : (BitVec.ofNat 32 κ.val).toNat = κ.val := by rw [BitVec.toNat_ofNat]; omega
  rw [BitVec.toInt_eq_toNat_of_lt (by omega), h]

/-- Code words' numbers are distinct. -/
theorem word_inj (κ n : Fin 1024) : BitVec.ofNat 32 κ.val = BitVec.ofNat 32 n.val ↔ n = κ := by
  refine ⟨fun h => ?_, fun h => by rw [h]⟩
  have e := congrArg BitVec.toInt h
  rw [word_int, word_int] at e
  exact Fin.ext (by omega)

/-- The one-hot array is one at the chosen word and zero elsewhere. -/
theorem hotVal_at (k : IVec S8 32) (c : Fin 8) (κ n : Fin 1024) (h : k (ix1 c) = BitVec.ofNat 32 κ.val) :
    hotVal (F := Ideal) k (ix2 c n) = if n = κ then 1 else 0 := by
  pointwise [hotVal]
  rw [h]
  by_cases e : n = κ
  · rw [if_pos e, e]
    simp [IntOp.cmpi, FloatOps.uitofp]
  · have e' : ¬BitVec.ofNat 32 κ.val = BitVec.ofNat 32 n.val := fun q => e ((word_inj κ n).mp q)
    rw [if_neg e]
    simp [IntOp.cmpi, FloatOps.uitofp, e']

/-- The gather's start is the chosen word's number. -/
theorem startVal_at (k : IVec S8 32) (c : Fin 8) (κ : Fin 1024) (h : k (ix1 c) = BitVec.ofNat 32 κ.val) :
    startVal k (ix3 c 0 0) = BitVec.ofNat 32 κ.val := by
  pointwise [startVal]
  rw [h]
  have hs : ¬(BitVec.ofNat 32 κ.val).slt 0#32 = true := by
    rw [BitVec.slt, word_int]; simp
  simp [IntOp.cmpi, Scalar.select, hs]

/-- The gather's start lies inside the array. -/
theorem insideVal_at (s : IVec S8x1x1 32) (c : Fin 8) (κ : Fin 1024) (h : s (ix3 c 0 0) = BitVec.ofNat 32 κ.val) : insideVal s (ix2 c 0) = 1#1 := by
  pointwise [insideVal]
  have h0 : (0#32).sle (BitVec.ofNat 32 κ.val) = true := by
    rw [BitVec.sle, word_int]; simp
  have h1 : (BitVec.ofNat 32 κ.val).sle 1023#32 = true := by
    rw [BitVec.sle, word_int]
    have : (1023#32).toInt = 1023 := by decide
    rw [this]; simp; omega
  rw [Finset.univ_unique, Finset.fold_singleton]
  show IntOp.andi (IntOp.andi (IntOp.cmpi CmpIPredicate.sge (s (ix3 c 0 0)) 0#32) (IntOp.cmpi CmpIPredicate.sle (s (ix3 c 0 0)) 1023#32)) 1#1 = 1#1
  rw [h]
  simp [IntOp.cmpi, IntOp.andi, h0, h1]

/-- The code words read at the start indices. -/
theorem gather_at (e : FVec Ideal S8x8240x1024 .f32) (s : IVec S8x1x1 32) (c : Fin 8) (d : Fin 8240) (κ : Fin 1024)
    (h : s (ix3 c 0 0) = BitVec.ofNat 32 κ.val) :
    Host.gather gather_S8x8240x1024_S8x1x1_S8x8240x1_1_2_0_0_2_2_182401 e s (ix3 c d 0) = e (ix3 c d κ) := by
  unfold Host.gather
  refine congrArg e (funext fun a => Fin.ext ?_)
  set D := gather_S8x8240x1024_S8x1x1_S8x8240x1_1_2_0_0_2_2_182401 with hD
  show D.start (ix3 c d 0) s a + D.batchCoord (ix3 c d 0) a + D.offCoord (ix3 c d 0) a = _
  have hsi : D.siIdx (ix3 c d 0) ⟨0, by decide⟩ = ix3 c 0 0 := by
    funext b; refine Fin.ext ?_
    match b with
    | ⟨0, _⟩ => rfl
    | ⟨1, _⟩ => rfl
    | ⟨2, _⟩ => rfl
  match a with
  | ⟨0, _⟩ =>
    show 0 + c.val + 0 = c.val
    omega
  | ⟨1, _⟩ =>
    show 0 + 0 + d.val = d.val
    omega
  | ⟨2, _⟩ =>
    show min (s (D.siIdx (ix3 c d 0) ⟨0, by decide⟩)).toInt.toNat (1024 - 1) + 0 + 0 = κ.val
    rw [hsi, h, word_int]
    have := κ.isLt
    omega

/-- The gathered code word is the chosen one. -/
theorem takeVal_at (k : IVec S8 32) (e : FVec Ideal S8x8240x1024 .f32) (c : Fin 8) (d : Fin 8240) (κ : Fin 1024)
    (h : k (ix1 c) = BitVec.ofNat 32 κ.val) : takeVal k e (ix2 c d) = e (ix3 c d κ) := by
  pointwise [takeVal]
  rw [insideVal_at _ c κ (startVal_at k c κ h), gather_at e _ c d κ (startVal_at k c κ h)]
  rfl

/-- The mean over the single row is that row. -/
theorem probVal_at (h : FVec Ideal S8x1024 .f32) (c : Fin 8) (n : Fin 1024) : probVal h (ix1 ⟨c.val * 1024 + n.val, by omega⟩) = h (ix2 c n) := by
  pointwise [probVal]
  rw [Fintype.sum_unique]
  have : (1 : EReal) = ((1 : ℝ) : EReal) := rfl
  rw [this, Ideal.div_coe one_ne_zero]
  simp

/-- The perplexity of one-hot rows. -/
theorem perpVal_at (h : FVec Ideal S8x1024 .f32) (κ : Fin 8 → Fin 1024) (hh : ∀ c n, h (ix2 c n) = if n = κ c then 1 else 0) (i : S_.Idx) :
    perpVal h i = Ideal.exp ((0 - (8 : EReal)) * Ideal.log (1 + Ideal.ofBits .f32 0x2EDBE6FF#32)) := by
  pointwise [perpVal]
  refine congrArg Ideal.exp ?_
  rw [Fin.sum_univ_tiles 8 1024 rfl]
  have row (c : Fin 8) : (∑ n : Fin 1024, probVal h (ix1 ⟨c.val * 1024 + n.val, by omega⟩)
      * Ideal.log (probVal h (ix1 ⟨c.val * 1024 + n.val, by omega⟩) + Ideal.ofBits .f32 0x2EDBE6FF#32))
        = Ideal.log (1 + Ideal.ofBits .f32 0x2EDBE6FF#32) := by
    simp only [probVal_at, hh]
    rw [Finset.sum_eq_single (κ c) (fun n _ hn => by rw [if_neg hn, zero_mul]) (fun hn => absurd (Finset.mem_univ _) hn), if_pos rfl, one_mul]
  rw [Finset.sum_congr rfl fun c _ => row c]
  rw [Finset.sum_const, Finset.card_univ, Fintype.card_fin, EReal.nsmul_eq_mul, zero_sub, EReal.neg_mul]
  rfl

/-! ## The nearest code word -/

/-- The reducer keeps one of its two pairs, one whose value is no less than the other's. -/
theorem red_or (a b : EReal × BitVec 32) :
    (reducer_argmax_f32_i32 (F := Ideal) a b = a ∧ b.1 ≤ a.1) ∨ (reducer_argmax_f32_i32 (F := Ideal) a b = b ∧ a.1 ≤ b.1) := by
  obtain ⟨u, i⟩ := a
  obtain ⟨v, j⟩ := b
  rcases lt_trichotomy u v with h | h | h
  · right
    simp [reducer_argmax_f32_i32, Ideal.cmpf_def, Ideal.cmp, Scalar.select, IntOp.ori, IntOp.andi, h.ne, h.not_gt, h.le]
  · subst h
    by_cases hij : i.slt j = true
    · left
      simp [reducer_argmax_f32_i32, Ideal.cmpf_def, Ideal.cmp, Scalar.select, IntOp.ori, IntOp.andi, IntOp.cmpi, hij]
    · right
      simp [reducer_argmax_f32_i32, Ideal.cmpf_def, Ideal.cmp, Scalar.select, IntOp.ori, IntOp.andi, IntOp.cmpi, hij]
  · left
    simp [reducer_argmax_f32_i32, Ideal.cmpf_def, Ideal.cmp, Scalar.select, IntOp.ori, IntOp.andi, h.ne', h, h.le]

/-- Folded along a list, it keeps the first pair or one of the list's, with a greatest value. -/
theorem red_fold (l : List (EReal × BitVec 32)) : ∀ a : EReal × BitVec 32,
    (l.foldl (reducer_argmax_f32_i32 (F := Ideal)) a = a ∨ l.foldl (reducer_argmax_f32_i32 (F := Ideal)) a ∈ l)
      ∧ a.1 ≤ (l.foldl (reducer_argmax_f32_i32 (F := Ideal)) a).1 ∧ ∀ q ∈ l, q.1 ≤ (l.foldl (reducer_argmax_f32_i32 (F := Ideal)) a).1 := by
  induction l with
  | nil => intro a; simp
  | cons b l ih =>
    intro a
    rw [List.foldl_cons]
    obtain ⟨h1, h2, h3⟩ := ih (reducer_argmax_f32_i32 (F := Ideal) a b)
    rcases red_or a b with ⟨e, h⟩ | ⟨e, h⟩ <;> rw [e] at h1 h2 h3 ⊢
    · refine ⟨h1.imp_right (List.mem_cons_of_mem _), h2, fun q hq => ?_⟩
      rcases List.mem_cons.mp hq with rfl | hq
      · exact h.trans h2
      · exact h3 q hq
    · refine ⟨Or.inr ?_, h.trans h2, fun q hq => ?_⟩
      · rcases h1 with h1 | h1
        · rw [h1]; exact List.mem_cons_self
        · exact List.mem_cons_of_mem _ h1
      · rcases List.mem_cons.mp hq with rfl | hq
        · exact h2
        · exact h3 q hq

/-- The place found for a codebook is that of a code word at a least distance. -/
theorem nearVal_at (d : FVec Ideal S8x1024 .f32) (k : Fin 8) :
    ∃ κ : Fin 1024, nearVal d (ix1 k) = BitVec.ofNat 32 κ.val ∧ ∀ n : Fin 1024, d (ix2 k κ) ≤ d (ix2 k n) := by
  unfold nearVal
  rw [Ideal.argReduce_eq_reduce2, Host.reduce2_eq_foldl_fiber]
  set l := Host.argReduceFiber (Host.negf d) (iotaInDim S8x1024 32 1) reducesTo_S8x1024_S8_d1 (ix1 k) with hl
  have hmem : ∀ p, p ∈ l ↔ ∃ n : Fin 1024, p = (-d (ix2 k n), BitVec.ofNat 32 n.val) := by
    intro p
    rw [hl, Host.argReduceFiber, List.mem_map]
    have drop (k' : Fin 8) (n : Fin 1024) : reducesTo_S8x1024_S8_d1.drop (ix2 k' n) = ix1 k' := by
      funext b
      match b with
      | ⟨0, _⟩ => rfl
    constructor
    · rintro ⟨q, hq, rfl⟩
      have hq := of_decide_eq_true (List.mem_filter.mp hq).2
      generalize S8x1024.rowMajor.symm q = i at hq ⊢
      idx_vars i
      rw [drop] at hq
      obtain rfl := (ix1_inj _ _).1 hq
      exact ⟨_, rfl⟩
    · rintro ⟨n, rfl⟩
      refine ⟨S8x1024.rowMajor (ix2 k n), ?_, ?_⟩
      · rw [List.mem_filter]
        exact ⟨List.mem_finRange _, decide_eq_true (by rw [Equiv.symm_apply_apply]; exact drop k n)⟩
      · rw [Equiv.symm_apply_apply]
        rfl
  obtain ⟨h1, h2, h3⟩ := red_fold l ((constant S_ .f32 0xFF800000#32 : FVec Ideal S_ .f32) (Shape.Idx.first h_S_), constantI S_ 32 0#32 (Shape.Idx.first h_S_))
  rcases h1 with h1 | h1
  · refine ⟨0, ?_, fun n => ?_⟩
    · rw [h1]; rfl
    · have h := h3 _ ((hmem _).2 ⟨n, rfl⟩)
      rw [h1] at h
      have hb : (Ideal.ofBits .f32 0xFF800000#32 : EReal) = ⊥ := by simp [Ideal.ofBits, Ideal.ieee]
      have h' : -d (ix2 k n) ≤ (⊥ : EReal) := le_of_le_of_eq h hb
      rw [EReal.neg_eq_bot_iff.mp (le_bot_iff.mp h')]
      exact le_top
  · obtain ⟨κ, hκ⟩ := (hmem _).1 h1
    refine ⟨κ, ?_, fun n => ?_⟩
    · rw [hκ]
    · have h := h3 _ ((hmem _).2 ⟨n, rfl⟩)
      rw [hκ] at h
      exact EReal.neg_le_neg_iff.mp h

end Cert.ReferenceIdeal.Hand

end
-- ==== Proof.Equal.lean ====
/- The kernel's three results are the reference's, as functions of the argument arrays. -/
module

public import proofs.«01_k».proof.Pre_finite
public import proofs.«01_k».proof.Proof.Fold
public import proofs.«01_k».proof.Proof.RefRead

@[expose] public section

set_option maxRecDepth 16384

noncomputable section

namespace Cert.KernelIdeal.Hand

open Idealize.ShloMosaic Idealize.ShloMosaic.TcCoe Idealize.SL.Sem
open Cert.KernelIdeal Cert.KernelIdeal.Gen
open Cert.Quantise (two rows row input chunked expanded square)
open Cert.ReferenceIdeal.Hand (zVal distVal nearVal hotVal takeVal lossVal perpVal decVal)

/-! ## Finite arguments -/

/-- An array whose absolute values all lie below infinity holds real numbers. -/
theorem fin_of {s t : Shape} (f : Fin t.rank → Fin s.rank) (hb : t.BroadcastsInDim s f) (a : FVec Ideal s .f32)
    (h : cmpf .olt (Host.absf a) (broadcastInDim s f hb (constant t .f32 0x7F800000#32)) = fun _ => 1#1) (i : s.Idx) : ∃ v : ℝ, a i = v := by
  have h' : Ideal.cmp .olt (max (a i) (-a i)) (Ideal.ofBits .f32 0x7F800000#32) = 1#1 := congrFun h i
  have ht : (Ideal.ofBits .f32 0x7F800000#32 : EReal) = ⊤ := by simp [Ideal.ofBits, Ideal.ieee]
  rw [ht] at h'
  generalize a i = x at h' ⊢
  induction x using EReal.rec with
  | bot => simp [Ideal.cmp] at h'
  | top => simp [Ideal.cmp] at h'
  | coe r => exact ⟨r, rfl⟩

variable (m : (ℓ : Loc nD τ sig) → Buf (Elt Ideal) ℓ) (c : Dev nD)

/-! ## The decoded array -/

/-- The further argument arrays, by their places. -/
abbrev arr3 : FVec Ideal S512x512 .f32 := m ((c : Thread nD τ).loc main_arg3)
abbrev arr4 : FVec Ideal S512 .f32 := m ((c : Thread nD τ).loc main_arg4)
abbrev arr5 : FVec Ideal S128x512 .f32 := m ((c : Thread nD τ).loc main_arg5)
abbrev arr6 : FVec Ideal S128 .f32 := m ((c : Thread nD τ).loc main_arg6)
abbrev arr9 : FVec Ideal S256x128 .f32 := m ((c : Thread nD τ).loc main_arg9)
abbrev arr10 : FVec Ideal S256 .f32 := m ((c : Thread nD τ).loc main_arg10)
abbrev arr11 : FVec Ideal S128x256 .f32 := m ((c : Thread nD τ).loc main_arg11)
abbrev arr12 : FVec Ideal S128 .f32 := m ((c : Thread nD τ).loc main_arg12)

/-- The region finds each bias at its reshape to a row. -/
theorem ent4 : V m c main_call0_v4 = shapeCast S1x512 (arr4 m c) shapeCasts_S512_S1x512 := by entry_read; rfl
theorem ent6 : V m c main_call0_v5 = shapeCast S1x128 (arr6 m c) shapeCasts_S128_S1x128 := by entry_read; rfl
theorem ent10 : V m c main_call0_v6 = shapeCast S1x256 (arr10 m c) shapeCasts_S256_S1x256 := by entry_read; rfl
theorem ent12 : V m c main_call0_v7 = shapeCast S1x128 (arr12 m c) shapeCasts_S128_S1x128 := by entry_read; rfl

/-- The kernel's decoder over its biases as rows is the reference's. -/
theorem pay7_eq (x : FVec Ideal S1x512 .f32) (w1 : FVec Ideal S512x512 .f32) (b1 : FVec Ideal S512 .f32) (w2 : FVec Ideal S128x512 .f32)
    (b2 : FVec Ideal S128 .f32) (w3 : FVec Ideal S256x128 .f32) (b3 : FVec Ideal S256 .f32) (w4 : FVec Ideal S128x256 .f32)
    (b4 : FVec Ideal S128 .f32) :
    k0_pay7 x w1 (shapeCast S1x512 b1 shapeCasts_S512_S1x512) w2 (shapeCast S1x128 b2 shapeCasts_S128_S1x128) w3
      (shapeCast S1x256 b3 shapeCasts_S256_S1x256) w4 (shapeCast S1x128 b4 shapeCasts_S128_S1x128) = decVal x w1 b1 w2 b2 w3 b3 w4 b4 := by
  funext j
  idx_vars j
  obtain rfl : j0 = 0 := Subsingleton.elim _ _
  pointwise! [k0_pay7, decVal]

/-- The decoded array that the kernel ends with is the reference's. -/
theorem dec_eq : dec m c = decVal (arr0 m c) (arr3 m c) (arr4 m c) (arr5 m c) (arr6 m c) (arr9 m c) (arr10 m c) (arr11 m c) (arr12 m c) := by
  unfold dec
  rw [ent4, ent6, ent10, ent12, V_main_arg0, V_main_arg3, V_main_arg5, V_main_arg9, V_main_arg11]
  exact pay7_eq _ _ _ _ _ _ _ _ _

/-! ## The perplexity -/

/-- The kernel's closed form of the perplexity is the reference's perplexity of the one-hot code words, whichever words are chosen. -/
theorem perp_eq (z : FVec Ideal ReferenceIdeal.S8x8240 .f32) (e : FVec Ideal S8x8240x1024 .f32) :
    shapeCast S_ (k0_pay12 (F := Ideal) k0_pay8 k0_pay9) shapeCasts_S1x1_S_ = perpVal (hotVal (nearVal (distVal z e))) := by
  funext i
  choose κ hκ _ using Cert.ReferenceIdeal.Hand.nearVal_at (distVal z e)
  have h8 : (Ideal.ofBits .f32 0x41000000#32 : EReal) = 8 := by
    have : (8 : EReal) = ((8 : ℝ) : EReal) := rfl
    rw [this]
    simp [Ideal.ofBits, Ideal.ieee, -EReal.coe_mul]; norm_num
  rw [Cert.ReferenceIdeal.Hand.perpVal_at _ κ (fun c n => Cert.ReferenceIdeal.Hand.hotVal_at _ c (κ c) n (hκ c)) i, ← h8]
  pointwise! [k0_pay12, k0_pay8, k0_pay9]

/-! ## The loss -/

/-- Over finite arguments, the kernel's sum of least distances is the reference's sum of mean squared differences from the chosen code words. -/
theorem loss_eq (h0 : ∀ i, ∃ v : ℝ, arr0 m c i = v) (h1 : ∀ i, ∃ v : ℝ, arr1 m c i = v) (h2 : ∀ i, ∃ v : ℝ, arr2 m c i = v)
    (h7 : ∀ i, ∃ v : ℝ, arr7 m c i = v) (h8 : ∀ i, ∃ v : ℝ, arr8 m c i = v) (h13 : ∀ i, ∃ v : ℝ, arr13 m c i = v)
    (z : FVec Ideal ReferenceIdeal.S8x8240 .f32) (hz : z = zVal (arr0 m c) (arr1 m c) (arr2 m c) (arr7 m c) (arr8 m c)) :
    shapeCast S_ (total m c) shapeCasts_S1x1_S_ = lossVal (takeVal (nearVal (distVal z (arr13 m c))) (arr13 m c)) z := by
  funext i
  choose κ hκ least using Cert.ReferenceIdeal.Hand.nearVal_at (distVal z (arr13 m c))
  rw [Cert.ReferenceIdeal.Hand.lossVal_at]
  show (∑ k : Fin 8, gain m c k) = _
  refine Finset.sum_congr rfl fun k _ => ?_
  have hzk (d : Fin 8240) : z (ix2 k d) = inpA m c k d := by
    rw [hz, Cert.ReferenceIdeal.Hand.zVal_at]; rfl
  unfold gain
  simp only [Cert.ReferenceIdeal.Hand.takeVal_at _ _ _ _ _ (hκ k), hzk]
  refine congrArg (Ideal.div · rows) (Quantise.least_eq (inpA m c k) (fun d n => arr13 m c (ix3 k d n)) (fun d => ?_) (fun d n => h13 _) (κ k) fun n => ?_)
  · exact Quantise.input_fin _ _ _ (Quantise.hidden_fin _ _ _ (fun _ => h0 _) (fun _ _ => h1 _) fun _ => h2 _) (fun _ _ => h7 _) (fun _ => h8 _) k d
  · have := least k n
    rw [Cert.ReferenceIdeal.Hand.distVal_at, Cert.ReferenceIdeal.Hand.distVal_at] at this
    simp only [hzk] at this
    exact this

end Cert.KernelIdeal.Hand

end
-- ==== Proof.lean ====
/-
  The certificate's proof.  The frames come from the generated frame modules and from the reference's run; the value claim
  joins the idealised kernel's run (Proof/Step.lean, Proof/Fold.lean) to the reference's (Proof/RefRun.lean,
  Proof/RefRead.lean) by the three equations of Proof/Equal.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The broadcasts of the precondition's masks are broadcasts. -/
theorem masks : Cert.Pre_finite.Facts where
  bcast_S_S1x512 := by decide
  bcast_S_S512x512 := by decide
  bcast_S_S512 := by decide
  bcast_S_S65920x512 := by decide
  bcast_S_S65920 := by decide
  bcast_S_S8x8240x1024 := by decide

instance : Cert.Pre_finite.Facts := masks
instance : Cert.Kernel.Facts := Cert.Kernel.Gen.facts
instance : Cert.KernelIdeal.Facts := Cert.KernelIdeal.Gen.facts
instance : Cert.ReferenceIdeal.Facts := Cert.ReferenceIdeal.Gen.facts

/-! ## The reference's arguments -/

section Reference
open Cert.ReferenceIdeal Cert.ReferenceIdeal.Hand

/-- Every fair execution of the reference ends with its arguments unchanged. -/
theorem ref_kept (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run _ _ _).mono (fun _ h c => by
    have k := (h c).2.2.2
    exact ⟨k _ (by decide), k _ (by decide), k _ (by decide), k _ (by decide), k _ (by decide), k _ (by decide), k _ (by decide),
      k _ (by decide), k _ (by decide), k _ (by decide), k _ (by decide), k _ (by decide), k _ (by decide), k _ (by decide)⟩)
    (run (F := Ideal) m ρ)

/-- The reference ends quiescent, its arguments unchanged. -/
theorem ref_frame : Cert.quiescent_ReferenceIdeal := fun m ρ _ =>
  (θ_run _ _ _).mono (fun r h => ⟨h, sem_eq_zero_of_no_sems (by decide) r.2⟩) (ref_kept m ρ)

end Reference

/-! ## The value claim -/

open Cert.KernelIdeal.Hand (arr0 arr1 arr2 arr3 arr4 arr5 arr6 arr7 arr8 arr9 arr10 arr11 arr12 arr13 fin_of dec_eq perp_eq loss_eq)
open Cert.ReferenceIdeal.Hand (zOf nearOf zVal)
open Idealize.ShloMosaic.StableHlo (launchContents)

/-- The idealised kernel and the reference end with equal results. -/
theorem values : Cert.algebraic_KernelIdeal_ReferenceIdeal_pre_finite := by
  intro m g m' g' hpre hagree
  refine ⟨fun c => Cert.KernelIdeal.Hand.dec m c,
    fun c => shapeCast Cert.KernelIdeal.S_ (Cert.KernelIdeal.Hand.total m c) Cert.KernelIdeal.Gen.shapeCasts_S1x1_S_,
    fun c => shapeCast Cert.KernelIdeal.S_ (Cert.KernelIdeal.Gen.k0_pay12 (F := Ideal) Cert.KernelIdeal.Gen.k0_pay8 Cert.KernelIdeal.Gen.k0_pay9) Cert.KernelIdeal.Gen.shapeCasts_S1x1_S_,
    Cert.KernelIdeal.Hand.run m g (Cert.KernelIdeal.Hand.total m) (Cert.KernelIdeal.Hand.dif_last m), ?_⟩
  refine (θ_run _ _ _).mono ?_ (θ_run_and (Cert.ReferenceIdeal.Hand.run (F := Ideal) m' g') (ref_kept m' g'))
  rintro r ⟨h, hk⟩ c
  obtain ⟨a0, a1, a2, a3, a4, a5, a6, a7, a8, a9, a10, a11, a12, a13⟩ := hagree c
  obtain ⟨p0, p1, p2, p7, p8, p13⟩ := hpre c
  have e0 : launchContents m' c (Proc.devRef .tc Cert.ReferenceIdeal.main_arg0) = arr0 m c := a0
  have e1 : launchContents m' c (Proc.devRef .tc Cert.ReferenceIdeal.main_arg1) = arr1 m c := a1
  have e2 : launchContents m' c (Proc.devRef .tc Cert.ReferenceIdeal.main_arg2) = arr2 m c := a2
  have e3 : launchContents m' c (Proc.devRef .tc Cert.ReferenceIdeal.main_arg3) = arr3 m c := a3
  have e4 : launchContents m' c (Proc.devRef .tc Cert.ReferenceIdeal.main_arg4) = arr4 m c := a4
  have e5 : launchContents m' c (Proc.devRef .tc Cert.ReferenceIdeal.main_arg5) = arr5 m c := a5
  have e6 : launchContents m' c (Proc.devRef .tc Cert.ReferenceIdeal.main_arg6) = arr6 m c := a6
  have e7 : launchContents m' c (Proc.devRef .tc Cert.ReferenceIdeal.main_arg7) = arr7 m c := a7
  have e8 : launchContents m' c (Proc.devRef .tc Cert.ReferenceIdeal.main_arg8) = arr8 m c := a8
  have e9 : launchContents m' c (Proc.devRef .tc Cert.ReferenceIdeal.main_arg9) = arr9 m c := a9
  have e10 : launchContents m' c (Proc.devRef .tc Cert.ReferenceIdeal.main_arg10) = arr10 m c := a10
  have e11 : launchContents m' c (Proc.devRef .tc Cert.ReferenceIdeal.main_arg11) = arr11 m c := a11
  have e12 : launchContents m' c (Proc.devRef .tc Cert.ReferenceIdeal.main_arg12) = arr12 m c := a12
  have e13 : launchContents m' c (Proc.devRef .tc Cert.ReferenceIdeal.main_arg13) = arr13 m c := a13
  have ez : zOf (launchContents m' c) = zVal (arr0 m c) (arr1 m c) (arr2 m c) (arr7 m c) (arr8 m c) := by
    unfold zOf; rw [e0, e1, e2, e7, e8]
  refine ⟨(h c).1.trans ?_, (h c).2.1.trans ?_, (h c).2.2.1.trans ?_, hk c⟩
  · rw [e0, e3, e4, e5, e6, e9, e10, e11, e12]
    exact (dec_eq m c).symm
  · unfold nearOf
    rw [e13]
    exact (loss_eq m c (fin_of _ _ _ p0) (fin_of _ _ _ p1) (fin_of _ _ _ p2) (fin_of _ _ _ p7) (fin_of _ _ _ p8) (fin_of _ _ _ p13) _ ez).symm
  · unfold nearOf
    exact (perp_eq _ _).symm

/-- The certificate: all five claims of the statement. -/
theorem claim : Cert.Claim :=
  ⟨inferInstance, inferInstance, inferInstance, inferInstance, fun m ρ _ => Cert.Kernel.Gen.frame m ρ, fun m ρ _ => Cert.KernelIdeal.Gen.frame m ρ,
    fun m ρ _ => Cert.KernelIdeal.Gen.frame m ρ, ref_frame, fun m ρ _ => ref_frame m ρ trivial, trivial, values⟩

end Cert.Proof

end
